-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x100000 : Shape := ⟨2, ![128, 100000]⟩
abbrev S128 : Shape := ⟨1, ![128]⟩
abbrev S100000 : Shape := ⟨1, ![100000]⟩
abbrev S1x128 : Shape := ⟨2, ![1, 128]⟩
abbrev S1x100000 : Shape := ⟨2, ![1, 100000]⟩
abbrev S128x1 : Shape := ⟨2, ![128, 1]⟩
abbrev S128x4096 : Shape := ⟨2, ![128, 4096]⟩
abbrev S1x4096 : Shape := ⟨2, ![1, 4096]⟩
abbrev S2x128x4096 : Shape := ⟨3, ![2, 128, 4096]⟩
abbrev S128x2048 : Shape := ⟨2, ![128, 2048]⟩
abbrev S1x2048 : Shape := ⟨2, ![1, 2048]⟩
abbrev S1x128x2048 : Shape := ⟨3, ![1, 128, 2048]⟩

abbrev nBuf : Space → Nat
  | .hbm => 13
  | .vmem => 16
  | .smem => 0
  | _ => 0

abbrev bufTy : (tb : Table) → Fin (tcTables nBuf tb) → BufTy
  | .hbm, ⟨0, _⟩ => ⟨S128x128, .f32⟩
  | .hbm, ⟨1, _⟩ => ⟨S128x100000, .i1⟩
  | .hbm, ⟨2, _⟩ => ⟨S128x128, .f32⟩
  | .hbm, ⟨3, _⟩ => ⟨S128, .f32⟩
  | .hbm, ⟨4, _⟩ => ⟨S128x100000, .f32⟩
  | .hbm, ⟨5, _⟩ => ⟨S100000, .f32⟩
  | .hbm, ⟨6, _⟩ => ⟨S128x100000, .i8⟩
  | .hbm, ⟨7, _⟩ => ⟨S128x100000, .i8⟩
  | .hbm, ⟨8, _⟩ => ⟨S1x128, .f32⟩
  | .hbm, ⟨9, _⟩ => ⟨S1x100000, .f32⟩
  | .hbm, ⟨10, _⟩ => ⟨S128x100000, .f32⟩
  | .hbm, ⟨11, _⟩ => ⟨S128x1, .i32⟩
  | .hbm, ⟨12, _⟩ => ⟨S128, .i32⟩
  | .local _ .vmem, ⟨0, _⟩ => ⟨S128x128, .f32⟩
  | .local _ .vmem, ⟨1, _⟩ => ⟨S128x4096, .i8⟩
  | .local _ .vmem, ⟨2, _⟩ => ⟨S128x4096, .i8⟩
  | .local _ .vmem, ⟨3, _⟩ => ⟨S128x128, .f32⟩
  | .local _ .vmem, ⟨4, _⟩ => ⟨S1x128, .f32⟩
  | .local _ .vmem, ⟨5, _⟩ => ⟨S128x4096, .f32⟩
  | .local _ .vmem, ⟨6, _⟩ => ⟨S128x4096, .f32⟩
  | .local _ .vmem, ⟨7, _⟩ => ⟨S1x4096, .f32⟩
  | .local _ .vmem, ⟨8, _⟩ => ⟨S1x4096, .f32⟩
  | .local _ .vmem, ⟨9, _⟩ => ⟨S128x4096, .f32⟩
  | .local _ .vmem, ⟨10, _⟩ => ⟨S128x4096, .f32⟩
  | .local _ .vmem, ⟨11, _⟩ => ⟨S128x1, .i32⟩
  | .local _ .vmem, ⟨12, _⟩ => ⟨S128x128, .f32⟩
  | .local _ .vmem, ⟨13, _⟩ => ⟨S2x128x4096, .f32⟩
  | .local _ .vmem, ⟨14, _⟩ => ⟨S128x1, .f32⟩
  | .local _ .vmem, ⟨15, _⟩ => ⟨S128x1, .i32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0_1 : Ref sig .tc := ⟨.hbm, 10, rfl⟩
abbrev main_call0_v4_1 : Ref sig .tc := ⟨.hbm, 11, rfl⟩
abbrev main_v0_0 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![26], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let c2_i32 : BitVec 32 := 2#32
  let v12 : BitVec 32 := Scalar.remsi arg0 c2_i32
  let v27 : Index := Scalar.indexCast v12
  let c0_15 : Index := 0#32
  let c0_16 : Index := 0#32
  ![v27.toNat, 0, 0]
def k0_off2 (i : grid0.Coords) : Fin 3 → Nat :=
  let arg0 : BitVec 32 := BitVec.ofNat 32 (i 0).val
  let c2_i32 : BitVec 32 := 2#32
  let v12 : BitVec 32 := Scalar.remsi arg0 c2_i32
  let v45 : Index := Scalar.indexCast v12
  let c0_29 : Index := 0#32
  let c2048_30 : Index := 2048#32
  ![v45.toNat, 0, 2048]
def k0_cond3 (i : grid0.Coords) : BitVec 1 :=
  let arg0 : BitVec 32 := BitVec.ofNat 32 (i 0).val
  let c1_i32 : BitVec 32 := 1#32
  let v6 : BitVec 1 := Scalar.cmpi .sge arg0 c1_i32
  let v7 : BitVec 32 := Scalar.extui v6
  let c0_i32_2 : BitVec 32 := 0#32
  let v8 : BitVec 1 := Scalar.cmpi .ne v7 c0_i32_2
  v8

def k0_off3 (i : grid0.Coords) : Fin 3 → Nat :=
  let arg0 : BitVec 32 := BitVec.ofNat 32 (i 0).val
  let c1_i32_5 : BitVec 32 := 1#32
  let v12 : BitVec 32 := Scalar.subi arg0 c1_i32_5
  let c2_i32 : BitVec 32 := 2#32
  let v13 : BitVec 32 := Scalar.remsi v12 c2_i32
  let v219 : Index := Scalar.indexCast v13
  let c0 : Index := 0#32
  let c0_57 : Index := 0#32
  ![v219.toNat, 0, 0]
def k0_off4 (i : grid0.Coords) : Fin 3 → Nat :=
  let arg0 : BitVec 32 := BitVec.ofNat 32 (i 0).val
  let c1_i32_5 : BitVec 32 := 1#32
  let v12 : BitVec 32 := Scalar.subi arg0 c1_i32_5
  let c2_i32 : BitVec 32 := 2#32
  let v13 : BitVec 32 := Scalar.remsi v12 c2_i32
  let v440 : Index := Scalar.indexCast v13
  let c0_130 : Index := 0#32
  let c2048 : Index := 2048#32
  ![v440.toNat, 0, 2048]
def k0_cond4 (i : grid0.Coords) : BitVec 1 :=
  let arg0 : BitVec 32 := BitVec.ofNat 32 (i 0).val
  let c25_i32_3 : BitVec 32 := 25#32
  let v9 : BitVec 1 := Scalar.cmpi .eq arg0 c25_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S128x128 : Shape := ⟨2, ![128, 128]⟩
abbrev S128x100000 : Shape := ⟨2, ![128, 100000]⟩
abbrev S128 : Shape := ⟨1, ![128]⟩
abbrev S100000 : Shape := ⟨1, ![100000]⟩
abbrev S1x128 : Shape := ⟨2, ![1, 128]⟩
abbrev S_ : Shape := ⟨0, ![]⟩
abbrev S1x100000 : Shape := ⟨2, ![1, 100000]⟩
abbrev S1 : Shape := ⟨1, ![1]⟩
abbrev S2 : Shape := ⟨1, ![2]⟩
abbrev S1x1 : Shape := ⟨2, ![1, 1]⟩

abbrev nBuf : Space → Nat
  | .hbm => 316
  | .vmem => 0
  | .smem => 0
  | _ => 0

abbrev hbmTy0_0 (i : Nat) : BufTy := match i % 128 with
  | 0 => ⟨S128x128, .f32⟩
  | 1 => ⟨S128x100000, .i1⟩
  | 2 => ⟨S128x128, .f32⟩
  | 3 => ⟨S128, .f32⟩
  | 4 => ⟨S128x100000, .f32⟩
  | 5 => ⟨S100000, .f32⟩
  | 6 => ⟨S128x128, .f32⟩
  | 7 => ⟨S1x128, .f32⟩
  | 8 => ⟨S128x128, .f32⟩
  | 9 => ⟨S128x128, .f32⟩
  | 10 => ⟨S_, .f32⟩
  | 11 => ⟨S128x128, .f32⟩
  | 12 => ⟨S128x128, .f32⟩
  | 13 => ⟨S128x100000, .f32⟩
  | 14 => ⟨S1x100000, .f32⟩
  | 15 => ⟨S128x100000, .f32⟩
  | 16 => ⟨S128x100000, .f32⟩
  | 17 => ⟨S_, .f32⟩
  | 18 => ⟨S128x100000, .f32⟩
  | 19 => ⟨S128x100000, .f32⟩
  | 20 => ⟨S_, .f32⟩
  | 21 => ⟨S128x100000, .f32⟩
  | 22 => ⟨S128x100000, .f32⟩
  | 23 => ⟨S_, .i32⟩
  | 24 => ⟨S_, .i32⟩
  | 25 => ⟨S_, .i32⟩
  | 26 => ⟨S_, .i32⟩
  | 27 => ⟨S1, .i32⟩
  | 28 => ⟨S_, .i32⟩
  | 29 => ⟨S_, .i32⟩
  | 30 => ⟨S_, .i32⟩
  | 31 => ⟨S1, .i32⟩
  | 32 => ⟨S2, .i32⟩
  | 33 => ⟨S_, .f32⟩
  | 34 => ⟨S_, .f32⟩
  | 35 => ⟨S_, .f32⟩
  | 36 => ⟨S_, .f32⟩
  | 37 => ⟨S1x1, .f32⟩
  | 38 => ⟨S1x1, .f32⟩
  | 39 => ⟨S1, .i32⟩
  | 40 => ⟨S_, .i32⟩
  | 41 => ⟨S1, .i32⟩
  | 42 => ⟨S_, .i32⟩
  | 43 => ⟨S128x100000, .i64⟩
  | 44 => ⟨S128x100000, .i64⟩
  | 45 => ⟨S_, .i64⟩
  | 46 => ⟨S128x100000, .i64⟩
  | 47 => ⟨S128x100000, .i64⟩
  | 48 => ⟨S_, .i64⟩
  | 49 => ⟨S128x100000, .i64⟩
  | 50 => ⟨S128x100000, .i64⟩
  | 51 => ⟨S128x100000, .i64⟩
  | 52 => ⟨S_, .i64⟩
  | 53 => ⟨S128x100000, .i64⟩
  | 54 => ⟨S128x100000, .i64⟩
  | 55 => ⟨S128x100000, .i32⟩
  | 56 => ⟨S128x100000, .i32⟩
  | 57 => ⟨S_, .i32⟩
  | 58 => ⟨S_, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S128x100000, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x128, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S128x100000, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S128x100000, .i32⟩
  | 23 => ⟨S_, .i32⟩
  | 24 => ⟨S128x100000, .i32⟩
  | 25 => ⟨S128x100000, .i32⟩
  | 26 => ⟨S_, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S_, .i32⟩
  | 33 => ⟨S128x100000, .i32⟩
  | 34 => ⟨S128x100000, .i32⟩
  | 35 => ⟨S_, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S128x100000, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S_, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S_, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S128x100000, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S_, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S_, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S_, .i32⟩
  | _ => ⟨S128x128, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S128x100000, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S_, .i32⟩
  | 12 => ⟨S128x100000, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S_, .i32⟩
  | 21 => ⟨S128x100000, .i32⟩
  | 22 => ⟨S128x100000, .i32⟩
  | 23 => ⟨S128x100000, .i32⟩
  | 24 => ⟨S_, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S128x100000, .f32⟩
  | 31 => ⟨S_, .f32⟩
  | 32 => ⟨S128x100000, .f32⟩
  | 33 => ⟨S128x100000, .f32⟩
  | 34 => ⟨S1x1, .f32⟩
  | 35 => ⟨S128x100000, .f32⟩
  | 36 => ⟨S128x100000, .f32⟩
  | 37 => ⟨S128x100000, .f32⟩
  | 38 => ⟨S128x100000, .f32⟩
  | 39 => ⟨S128x100000, .f32⟩
  | 40 => ⟨S128x100000, .f32⟩
  | 41 => ⟨S_, .f32⟩
  | 42 => ⟨S128x100000, .f32⟩
  | 43 => ⟨S128x100000, .f32⟩
  | 44 => ⟨S_, .f32⟩
  | 45 => ⟨S128x100000, .f32⟩
  | 46 => ⟨S128x100000, .f32⟩
  | 47 => ⟨S_, .f32⟩
  | 48 => ⟨S128x100000, .f32⟩
  | 49 => ⟨S128x100000, .f32⟩
  | 50 => ⟨S128x100000, .f32⟩
  | 51 => ⟨S128x100000, .f32⟩
  | 52 => ⟨S128x100000, .f32⟩
  | 53 => ⟨S128x100000, .f32⟩
  | 54 => ⟨S128x100000, .f32⟩
  | 55 => ⟨S128x100000, .i32⟩
  | 56 => ⟨S_, .f32⟩
  | 57 => ⟨S_, .i32⟩
  | 58 => ⟨S128, .f32⟩
  | 59 => ⟨S128, .i32⟩
  | _ => ⟨S128x128, .f32⟩

abbrev hbmTy (i : Nat) : BufTy := match i / 128 with
  | 0 => hbmTy0_0 i
  | 1 => hbmTy0_1 i
  | 2 => hbmTy0_2 i
  | _ => ⟨S128x128, .f32⟩

abbrev bufTy : (tb : Table) → Fin (tcTables nBuf tb) → BufTy
  | .hbm, ⟨i, _⟩ => hbmTy i
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_call1_v0 : Ref sig .tc := ⟨.hbm, 21, rfl⟩
abbrev main_v11 : Ref sig .tc := ⟨.hbm, 22, rfl⟩
abbrev main_c : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_cst_4 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_c : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_call2_v14 : Ref sig .tc := ⟨.hbm, 51, rfl⟩
abbrev main_call2_c_1 : Ref sig .tc := ⟨.hbm, 52, rfl⟩
abbrev main_call2_v15 : Ref sig .tc := ⟨.hbm, 53, rfl⟩
abbrev main_call2_v16 : Ref sig .tc := ⟨.hbm, 54, rfl⟩
abbrev main_call2_v17 : Ref sig .tc := ⟨.hbm, 55, rfl⟩
abbrev main_call2_v18 : Ref sig .tc := ⟨.hbm, 56, rfl⟩
abbrev main_call2_call0_v0 : Ref sig .tc := ⟨.hbm, 57, rfl⟩
abbrev main_call2_call0_c : Ref sig .tc := ⟨.hbm, 58, rfl⟩
abbrev main_call2_call0_v1 : Ref sig .tc := ⟨.hbm, 59, rfl⟩
abbrev main_call2_call0_v2 : Ref sig .tc := ⟨.hbm, 60, rfl⟩
abbrev main_call2_call0_v3 : Ref sig .tc := ⟨.hbm, 61, rfl⟩
abbrev main_call2_call0_v4 : Ref sig .tc := ⟨.hbm, 62, rfl⟩
abbrev main_call2_call0_v5 : Ref sig .tc := ⟨.hbm, 63, rfl⟩
abbrev main_call2_call0_v6 : Ref sig .tc := ⟨.hbm, 64, rfl⟩
abbrev main_call2_call0_c_0 : Ref sig .tc := ⟨.hbm, 65, rfl⟩
abbrev main_call2_call0_v7 : Ref sig .tc := ⟨.hbm, 66, rfl⟩
abbrev main_call2_call0_v8 : Ref sig .tc := ⟨.hbm, 67, rfl⟩
abbrev main_call2_call0_c_1 : Ref sig .tc := ⟨.hbm, 68, rfl⟩
abbrev main_call2_call0_v9 : Ref sig .tc := ⟨.hbm, 69, rfl⟩
abbrev main_call2_call0_v10 : Ref sig .tc := ⟨.hbm, 70, rfl⟩
abbrev main_call2_call0_v11 : Ref sig .tc := ⟨.hbm, 71, rfl⟩
abbrev main_call2_call0_v12 : Ref sig .tc := ⟨.hbm, 72, rfl⟩
abbrev main_call2_call0_v13 : Ref sig .tc := ⟨.hbm, 73, rfl⟩
abbrev main_call2_call0_c_2 : Ref sig .tc := ⟨.hbm, 74, rfl⟩
abbrev main_call2_call0_v14 : Ref sig .tc := ⟨.hbm, 75, rfl⟩
abbrev main_call2_call0_v15 : Ref sig .tc := ⟨.hbm, 76, rfl⟩
abbrev main_call2_call0_c_3 : Ref sig .tc := ⟨.hbm, 77, rfl⟩
abbrev main_call2_call0_v16 : Ref sig .tc := ⟨.hbm, 78, rfl⟩
abbrev main_call2_call0_v17 : Ref sig .tc := ⟨.hbm, 79, rfl⟩
abbrev main_call2_call0_v18 : Ref sig .tc := ⟨.hbm, 80, rfl⟩
abbrev main_call2_call0_v19 : Ref sig .tc := ⟨.hbm, 81, rfl⟩
abbrev main_call2_call0_v20 : Ref sig .tc := ⟨.hbm, 82, rfl⟩
abbrev main_call2_call0_c_4 : Ref sig .tc := ⟨.hbm, 83, rfl⟩
abbrev main_call2_call0_v21 : Ref sig .tc := ⟨.hbm, 84, rfl⟩
abbrev main_call2_call0_v22 : Ref sig .tc := ⟨.hbm, 85, rfl⟩
abbrev main_call2_call0_c_5 : Ref sig .tc := ⟨.hbm, 86, rfl⟩
abbrev main_call2_call0_v23 : Ref sig .tc := ⟨.hbm, 87, rfl⟩
abbrev main_call2_call0_v24 : Ref sig .tc := ⟨.hbm, 88, rfl⟩
abbrev main_call2_call0_v25 : Ref sig .tc := ⟨.hbm, 89, rfl⟩
abbrev main_call2_call0_v26 : Ref sig .tc := ⟨.hbm, 90, rfl⟩
abbrev main_call2_call0_v27 : Ref sig .tc := ⟨.hbm, 91, rfl⟩
abbrev main_call2_call0_c_6 : Ref sig .tc := ⟨.hbm, 92, rfl⟩
abbrev main_call2_call0_v28 : Ref sig .tc := ⟨.hbm, 93, rfl⟩
abbrev main_call2_call0_v29 : Ref sig .tc := ⟨.hbm, 94, rfl⟩
abbrev main_call2_call0_c_7 : Ref sig .tc := ⟨.hbm, 95, rfl⟩
abbrev main_call2_call0_v30 : Ref sig .tc := ⟨.hbm, 96, rfl⟩
abbrev main_call2_call0_v31 : Ref sig .tc := ⟨.hbm, 97, rfl⟩
abbrev main_call2_call0_v32 : Ref sig .tc := ⟨.hbm, 98, rfl⟩
abbrev main_call2_call0_v33 : Ref sig .tc := ⟨.hbm, 99, rfl⟩
abbrev main_call2_call0_v34 : Ref sig .tc := ⟨.hbm, 100, rfl⟩
abbrev main_call2_call0_v35 : Ref sig .tc := ⟨.hbm, 101, rfl⟩
abbrev main_call2_call0_v36 : Ref sig .tc := ⟨.hbm, 102, rfl⟩
abbrev main_call2_call0_v37 : Ref sig .tc := ⟨.hbm, 103, rfl⟩
abbrev main_call2_call0_c_8 : Ref sig .tc := ⟨.hbm, 104, rfl⟩
abbrev main_call2_call0_v38 : Ref sig .tc := ⟨.hbm, 105, rfl⟩
abbrev main_call2_call0_v39 : Ref sig .tc := ⟨.hbm, 106, rfl⟩
abbrev main_call2_call0_v40 : Ref sig .tc := ⟨.hbm, 107, rfl⟩
abbrev main_call2_call0_c_9 : Ref sig .tc := ⟨.hbm, 108, rfl⟩
abbrev main_call2_call0_v41 : Ref sig .tc := ⟨.hbm, 109, rfl⟩
abbrev main_call2_call0_v42 : Ref sig .tc := ⟨.hbm, 110, rfl⟩
abbrev main_call2_call0_c_10 : Ref sig .tc := ⟨.hbm, 111, rfl⟩
abbrev main_call2_call0_v43 : Ref sig .tc := ⟨.hbm, 112, rfl⟩
abbrev main_call2_call0_v44 : Ref sig .tc := ⟨.hbm, 113, rfl⟩
abbrev main_call2_call0_v45 : Ref sig .tc := ⟨.hbm, 114, rfl⟩
abbrev main_call2_call0_v46 : Ref sig .tc := ⟨.hbm, 115, rfl⟩
abbrev main_call2_call0_v47 : Ref sig .tc := ⟨.hbm, 116, rfl⟩
abbrev main_call2_call0_c_11 : Ref sig .tc := ⟨.hbm, 117, rfl⟩
abbrev main_call2_call0_v48 : Ref sig .tc := ⟨.hbm, 118, rfl⟩
abbrev main_call2_call0_v49 : Ref sig .tc := ⟨.hbm, 119, rfl⟩
abbrev main_call2_call0_c_12 : Ref sig .tc := ⟨.hbm, 120, rfl⟩
abbrev main_call2_call0_v50 : Ref sig .tc := ⟨.hbm, 121, rfl⟩
abbrev main_call2_call0_v51 : Ref sig .tc := ⟨.hbm, 122, rfl⟩
abbrev main_call2_call0_v52 : Ref sig .tc := ⟨.hbm, 123, rfl⟩
abbrev main_call2_call0_v53 : Ref sig .tc := ⟨.hbm, 124, rfl⟩
abbrev main_call2_call0_v54 : Ref sig .tc := ⟨.hbm, 125, rfl⟩
abbrev main_call2_call0_c_13 : Ref sig .tc := ⟨.hbm, 126, rfl⟩
abbrev main_call2_call0_v55 : Ref sig .tc := ⟨.hbm, 127, rfl⟩
abbrev main_call2_call0_v56 : Ref sig .tc := ⟨.hbm, 128, rfl⟩
abbrev main_call2_call0_c_14 : Ref sig .tc := ⟨.hbm, 129, rfl⟩
abbrev main_call2_call0_v57 : Ref sig .tc := ⟨.hbm, 130, rfl⟩
abbrev main_call2_call0_v58 : Ref sig .tc := ⟨.hbm, 131, rfl⟩
abbrev main_call2_call0_v59 : Ref sig .tc := ⟨.hbm, 132, rfl⟩
abbrev main_call2_call0_v60 : Ref sig .tc := ⟨.hbm, 133, rfl⟩
abbrev main_call2_call0_v61 : Ref sig .tc := ⟨.hbm, 134, rfl⟩
abbrev main_call2_call0_c_15 : Ref sig .tc := ⟨.hbm, 135, rfl⟩
abbrev main_call2_call0_v62 : Ref sig .tc := ⟨.hbm, 136, rfl⟩
abbrev main_call2_call0_v63 : Ref sig .tc := ⟨.hbm, 137, rfl⟩
abbrev main_call2_call0_c_16 : Ref sig .tc := ⟨.hbm, 138, rfl⟩
abbrev main_call2_call0_v64 : Ref sig .tc := ⟨.hbm, 139, rfl⟩
abbrev main_call2_call0_v65 : Ref sig .tc := ⟨.hbm, 140, rfl⟩
abbrev main_call2_call0_v66 : Ref sig .tc := ⟨.hbm, 141, rfl⟩
abbrev main_call2_call0_v67 : Ref sig .tc := ⟨.hbm, 142, rfl⟩
abbrev main_call2_call0_v68 : Ref sig .tc := ⟨.hbm, 143, rfl⟩
abbrev main_call2_call0_v69 : Ref sig .tc := ⟨.hbm, 144, rfl⟩
abbrev main_call2_call0_v70 : Ref sig .tc := ⟨.hbm, 145, rfl⟩
abbrev main_call2_call0_v71 : Ref sig .tc := ⟨.hbm, 146, rfl⟩
abbrev main_call2_call0_c_17 : Ref sig .tc := ⟨.hbm, 147, rfl⟩
abbrev main_call2_call0_v72 : Ref sig .tc := ⟨.hbm, 148, rfl⟩
abbrev main_call2_call0_v73 : Ref sig .tc := ⟨.hbm, 149, rfl⟩
abbrev main_call2_call0_v74 : Ref sig .tc := ⟨.hbm, 150, rfl⟩
abbrev main_call2_call0_c_18 : Ref sig .tc := ⟨.hbm, 151, rfl⟩
abbrev main_call2_call0_v75 : Ref sig .tc := ⟨.hbm, 152, rfl⟩
abbrev main_call2_call0_v76 : Ref sig .tc := ⟨.hbm, 153, rfl⟩
abbrev main_call2_call0_c_19 : Ref sig .tc := ⟨.hbm, 154, rfl⟩
abbrev main_call2_call0_v77 : Ref sig .tc := ⟨.hbm, 155, rfl⟩
abbrev main_call2_call0_v78 : Ref sig .tc := ⟨.hbm, 156, rfl⟩
abbrev main_call2_call0_v79 : Ref sig .tc := ⟨.hbm, 157, rfl⟩
abbrev main_call2_call0_v80 : Ref sig .tc := ⟨.hbm, 158, rfl⟩
abbrev main_call2_call0_v81 : Ref sig .tc := ⟨.hbm, 159, rfl⟩
abbrev main_call2_call0_c_20 : Ref sig .tc := ⟨.hbm, 160, rfl⟩
abbrev main_call2_call0_v82 : Ref sig .tc := ⟨.hbm, 161, rfl⟩
abbrev main_call2_call0_v83 : Ref sig .tc := ⟨.hbm, 162, rfl⟩
abbrev main_call2_call0_c_21 : Ref sig .tc := ⟨.hbm, 163, rfl⟩
abbrev main_call2_call0_v84 : Ref sig .tc := ⟨.hbm, 164, rfl⟩
abbrev main_call2_call0_v85 : Ref sig .tc := ⟨.hbm, 165, rfl⟩
abbrev main_call2_call0_v86 : Ref sig .tc := ⟨.hbm, 166, rfl⟩
abbrev main_call2_call0_v87 : Ref sig .tc := ⟨.hbm, 167, rfl⟩
abbrev main_call2_call0_v88 : Ref sig .tc := ⟨.hbm, 168, rfl⟩
abbrev main_call2_call0_c_22 : Ref sig .tc := ⟨.hbm, 169, rfl⟩
abbrev main_call2_call0_v89 : Ref sig .tc := ⟨.hbm, 170, rfl⟩
abbrev main_call2_call0_v90 : Ref sig .tc := ⟨.hbm, 171, rfl⟩
abbrev main_call2_call0_c_23 : Ref sig .tc := ⟨.hbm, 172, rfl⟩
abbrev main_call2_call0_v91 : Ref sig .tc := ⟨.hbm, 173, rfl⟩
abbrev main_call2_call0_v92 : Ref sig .tc := ⟨.hbm, 174, rfl⟩
abbrev main_call2_call0_v93 : Ref sig .tc := ⟨.hbm, 175, rfl⟩
abbrev main_call2_call0_v94 : Ref sig .tc := ⟨.hbm, 176, rfl⟩
abbrev main_call2_call0_v95 : Ref sig .tc := ⟨.hbm, 177, rfl⟩
abbrev main_call2_call0_c_24 : Ref sig .tc := ⟨.hbm, 178, rfl⟩
abbrev main_call2_call0_v96 : Ref sig .tc := ⟨.hbm, 179, rfl⟩
abbrev main_call2_call0_v97 : Ref sig .tc := ⟨.hbm, 180, rfl⟩
abbrev main_call2_call0_c_25 : Ref sig .tc := ⟨.hbm, 181, rfl⟩
abbrev main_call2_call0_v98 : Ref sig .tc := ⟨.hbm, 182, rfl⟩
abbrev main_call2_call0_v99 : Ref sig .tc := ⟨.hbm, 183, rfl⟩
abbrev main_call2_call0_v100 : Ref sig .tc := ⟨.hbm, 184, rfl⟩
abbrev main_call2_call0_v101 : Ref sig .tc := ⟨.hbm, 185, rfl⟩
abbrev main_call2_call0_v102 : Ref sig .tc := ⟨.hbm, 186, rfl⟩
abbrev main_call2_call0_v103 : Ref sig .tc := ⟨.hbm, 187, rfl⟩
abbrev main_call2_call0_v104 : Ref sig .tc := ⟨.hbm, 188, rfl⟩
abbrev main_call2_call0_v105 : Ref sig .tc := ⟨.hbm, 189, rfl⟩
abbrev main_call2_call0_c_26 : Ref sig .tc := ⟨.hbm, 190, rfl⟩
abbrev main_call2_call0_v106 : Ref sig .tc := ⟨.hbm, 191, rfl⟩
abbrev main_call2_call0_v107 : Ref sig .tc := ⟨.hbm, 192, rfl⟩
abbrev main_call2_call0_v108 : Ref sig .tc := ⟨.hbm, 193, rfl⟩
abbrev main_call2_call0_c_27 : Ref sig .tc := ⟨.hbm, 194, rfl⟩
abbrev main_call2_call0_v109 : Ref sig .tc := ⟨.hbm, 195, rfl⟩
abbrev main_call2_call0_v110 : Ref sig .tc := ⟨.hbm, 196, rfl⟩
abbrev main_call2_call0_c_28 : Ref sig .tc := ⟨.hbm, 197, rfl⟩
abbrev main_call2_call0_v111 : Ref sig .tc := ⟨.hbm, 198, rfl⟩
abbrev main_call2_call0_v112 : Ref sig .tc := ⟨.hbm, 199, rfl⟩
abbrev main_call2_call0_v113 : Ref sig .tc := ⟨.hbm, 200, rfl⟩
abbrev main_call2_call0_v114 : Ref sig .tc := ⟨.hbm, 201, rfl⟩
abbrev main_call2_call0_v115 : Ref sig .tc := ⟨.hbm, 202, rfl⟩
abbrev main_call2_call0_c_29 : Ref sig .tc := ⟨.hbm, 203, rfl⟩
abbrev main_call2_call0_v116 : Ref sig .tc := ⟨.hbm, 204, rfl⟩
abbrev main_call2_call0_v117 : Ref sig .tc := ⟨.hbm, 205, rfl⟩
abbrev main_call2_call0_c_30 : Ref sig .tc := ⟨.hbm, 206, rfl⟩
abbrev main_call2_call0_v118 : Ref sig .tc := ⟨.hbm, 207, rfl⟩
abbrev main_call2_call0_v119 : Ref sig .tc := ⟨.hbm, 208, rfl⟩
abbrev main_call2_call0_v120 : Ref sig .tc := ⟨.hbm, 209, rfl⟩
abbrev main_call2_call0_v121 : Ref sig .tc := ⟨.hbm, 210, rfl⟩
abbrev main_call2_call0_v122 : Ref sig .tc := ⟨.hbm, 211, rfl⟩
abbrev main_call2_call0_c_31 : Ref sig .tc := ⟨.hbm, 212, rfl⟩
abbrev main_call2_call0_v123 : Ref sig .tc := ⟨.hbm, 213, rfl⟩
abbrev main_call2_call0_v124 : Ref sig .tc := ⟨.hbm, 214, rfl⟩
abbrev main_call2_call0_c_32 : Ref sig .tc := ⟨.hbm, 215, rfl⟩
abbrev main_call2_call0_v125 : Ref sig .tc := ⟨.hbm, 216, rfl⟩
abbrev main_call2_call0_v126 : Ref sig .tc := ⟨.hbm, 217, rfl⟩
abbrev main_call2_call0_v127 : Ref sig .tc := ⟨.hbm, 218, rfl⟩
abbrev main_call2_call0_v128 : Ref sig .tc := ⟨.hbm, 219, rfl⟩
abbrev main_call2_call0_v129 : Ref sig .tc := ⟨.hbm, 220, rfl⟩
abbrev main_call2_call0_c_33 : Ref sig .tc := ⟨.hbm, 221, rfl⟩
abbrev main_call2_call0_v130 : Ref sig .tc := ⟨.hbm, 222, rfl⟩
abbrev main_call2_call0_v131 : Ref sig .tc := ⟨.hbm, 223, rfl⟩
abbrev main_call2_call0_c_34 : Ref sig .tc := ⟨.hbm, 224, rfl⟩
abbrev main_call2_call0_v132 : Ref sig .tc := ⟨.hbm, 225, rfl⟩
abbrev main_call2_call0_v133 : Ref sig .tc := ⟨.hbm, 226, rfl⟩
abbrev main_call2_call0_v134 : Ref sig .tc := ⟨.hbm, 227, rfl⟩
abbrev main_call2_call0_v135 : Ref sig .tc := ⟨.hbm, 228, rfl⟩
abbrev main_call2_call0_v136 : Ref sig .tc := ⟨.hbm, 229, rfl⟩
abbrev main_call2_call0_v137 : Ref sig .tc := ⟨.hbm, 230, rfl⟩
abbrev main_call2_call0_v138 : Ref sig .tc := ⟨.hbm, 231, rfl⟩
abbrev main_call2_call0_v139 : Ref sig .tc := ⟨.hbm, 232, rfl⟩
abbrev main_call2_call0_c_35 : Ref sig .tc := ⟨.hbm, 233, rfl⟩
abbrev main_call2_call0_v140 : Ref sig .tc := ⟨.hbm, 234, rfl⟩
abbrev main_call2_call0_v141 : Ref sig .tc := ⟨.hbm, 235, rfl⟩
abbrev main_call2_call0_v142 : Ref sig .tc := ⟨.hbm, 236, rfl⟩
abbrev main_call2_call0_c_36 : Ref sig .tc := ⟨.hbm, 237, rfl⟩
abbrev main_call2_call0_v143 : Ref sig .tc := ⟨.hbm, 238, rfl⟩
abbrev main_call2_call0_v144 : Ref sig .tc := ⟨.hbm, 239, rfl⟩
abbrev main_call2_call0_c_37 : Ref sig .tc := ⟨.hbm, 240, rfl⟩
abbrev main_call2_call0_v145 : Ref sig .tc := ⟨.hbm, 241, rfl⟩
abbrev main_call2_call0_v146 : Ref sig .tc := ⟨.hbm, 242, rfl⟩
abbrev main_call2_call0_v147 : Ref sig .tc := ⟨.hbm, 243, rfl⟩
abbrev main_call2_call0_v148 : Ref sig .tc := ⟨.hbm, 244, rfl⟩
abbrev main_call2_call0_v149 : Ref sig .tc := ⟨.hbm, 245, rfl⟩
abbrev main_call2_call0_c_38 : Ref sig .tc := ⟨.hbm, 246, rfl⟩
abbrev main_call2_call0_v150 : Ref sig .tc := ⟨.hbm, 247, rfl⟩
abbrev main_call2_call0_v151 : Ref sig .tc := ⟨.hbm, 248, rfl⟩
abbrev main_call2_call0_c_39 : Ref sig .tc := ⟨.hbm, 249, rfl⟩
abbrev main_call2_call0_v152 : Ref sig .tc := ⟨.hbm, 250, rfl⟩
abbrev main_call2_call0_v153 : Ref sig .tc := ⟨.hbm, 251, rfl⟩
abbrev main_call2_call0_v154 : Ref sig .tc := ⟨.hbm, 252, rfl⟩
abbrev main_call2_call0_v155 : Ref sig .tc := ⟨.hbm, 253, rfl⟩
abbrev main_call2_call0_v156 : Ref sig .tc := ⟨.hbm, 254, rfl⟩
abbrev main_call2_call0_c_40 : Ref sig .tc := ⟨.hbm, 255, rfl⟩
abbrev main_call2_call0_v157 : Ref sig .tc := ⟨.hbm, 256, rfl⟩
abbrev main_call2_call0_v158 : Ref sig .tc := ⟨.hbm, 257, rfl⟩
abbrev main_call2_call0_c_41 : Ref sig .tc := ⟨.hbm, 258, rfl⟩
abbrev main_call2_call0_v159 : Ref sig .tc := ⟨.hbm, 259, rfl⟩
abbrev main_call2_call0_v160 : Ref sig .tc := ⟨.hbm, 260, rfl⟩
abbrev main_call2_call0_v161 : Ref sig .tc := ⟨.hbm, 261, rfl⟩
abbrev main_call2_call0_v162 : Ref sig .tc := ⟨.hbm, 262, rfl⟩
abbrev main_call2_call0_v163 : Ref sig .tc := ⟨.hbm, 263, rfl⟩
abbrev main_call2_call0_c_42 : Ref sig .tc := ⟨.hbm, 264, rfl⟩
abbrev main_call2_call0_v164 : Ref sig .tc := ⟨.hbm, 265, rfl⟩
abbrev main_call2_call0_v165 : Ref sig .tc := ⟨.hbm, 266, rfl⟩
abbrev main_call2_call0_c_43 : Ref sig .tc := ⟨.hbm, 267, rfl⟩
abbrev main_call2_call0_v166 : Ref sig .tc := ⟨.hbm, 268, rfl⟩
abbrev main_call2_call0_v167 : Ref sig .tc := ⟨.hbm, 269, rfl⟩
abbrev main_call2_call0_v168 : Ref sig .tc := ⟨.hbm, 270, rfl⟩
abbrev main_call2_call0_v169 : Ref sig .tc := ⟨.hbm, 271, rfl⟩
abbrev main_call2_call0_v170 : Ref sig .tc := ⟨.hbm, 272, rfl⟩
abbrev main_call2_v19_0 : Ref sig .tc := ⟨.hbm, 273, rfl⟩
abbrev main_call2_call0_v172 : Ref sig .tc := ⟨.hbm, 274, rfl⟩
abbrev main_call2_call0_v173 : Ref sig .tc := ⟨.hbm, 275, rfl⟩
abbrev main_call2_call0_c_44 : Ref sig .tc := ⟨.hbm, 276, rfl⟩
abbrev main_call2_call0_v174 : Ref sig .tc := ⟨.hbm, 277, rfl⟩
abbrev main_call2_v19_1 : Ref sig .tc := ⟨.hbm, 278, rfl⟩
abbrev main_call2_v20 : Ref sig .tc := ⟨.hbm, 279, rfl⟩
abbrev main_call2_c_2 : Ref sig .tc := ⟨.hbm, 280, rfl⟩
abbrev main_call2_v21 : Ref sig .tc := ⟨.hbm, 281, rfl⟩
abbrev main_call2_v22 : Ref sig .tc := ⟨.hbm, 282, rfl⟩
abbrev main_call2_c_3 : Ref sig .tc := ⟨.hbm, 283, rfl⟩
abbrev main_call2_v23 : Ref sig .tc := ⟨.hbm, 284, rfl⟩
abbrev main_call2_v24 : Ref sig .tc := ⟨.hbm, 285, rfl⟩
abbrev main_call2_v25 : Ref sig .tc := ⟨.hbm, 286, rfl⟩
abbrev main_call2_cst : Ref sig .tc := ⟨.hbm, 287, rfl⟩
abbrev main_call2_v26 : Ref sig .tc := ⟨.hbm, 288, rfl⟩
abbrev main_call2_v27 : Ref sig .tc := ⟨.hbm, 289, rfl⟩
abbrev main_call2_v28 : Ref sig .tc := ⟨.hbm, 290, rfl⟩
abbrev main_call2_v29 : Ref sig .tc := ⟨.hbm, 291, rfl⟩
abbrev main_call2_v30 : Ref sig .tc := ⟨.hbm, 292, rfl⟩
abbrev main_call2_v31 : Ref sig .tc := ⟨.hbm, 293, rfl⟩
abbrev main_call2_v32 : Ref sig .tc := ⟨.hbm, 294, rfl⟩
abbrev main_call2_v33 : Ref sig .tc := ⟨.hbm, 295, rfl⟩
abbrev main_v19 : Ref sig .tc := ⟨.hbm, 296, rfl⟩
abbrev main_cst_5 : Ref sig .tc := ⟨.hbm, 297, rfl⟩
abbrev main_v20 : Ref sig .tc := ⟨.hbm, 298, rfl⟩
abbrev main_v21 : Ref sig .tc := ⟨.hbm, 299, rfl⟩
abbrev main_cst_6 : Ref sig .tc := ⟨.hbm, 300, rfl⟩
abbrev main_v22 : Ref sig .tc := ⟨.hbm, 301, rfl⟩
abbrev main_v23 : Ref sig .tc := ⟨.hbm, 302, rfl⟩
abbrev main_cst_7 : Ref sig .tc := ⟨.hbm, 303, rfl⟩
abbrev main_v24 : Ref sig .tc := ⟨.hbm, 304, rfl⟩
abbrev main_v25 : Ref sig .tc := ⟨.hbm, 305, rfl⟩
abbrev main_v26 : Ref sig .tc := ⟨.hbm, 306, rfl⟩
abbrev main_v27 : Ref sig .tc := ⟨.hbm, 307, rfl⟩
abbrev main_v28 : Ref sig .tc := ⟨.hbm, 308, rfl⟩
abbrev main_v29 : Ref sig .tc := ⟨.hbm, 309, rfl⟩
abbrev main_v30 : Ref sig .tc := ⟨.hbm, 310, rfl⟩
abbrev main_call3_v0 : Ref sig .tc := ⟨.hbm, 311, rfl⟩
abbrev main_call3_cst : Ref sig .tc := ⟨.hbm, 312, rfl⟩
abbrev main_call3_c : Ref sig .tc := ⟨.hbm, 313, rfl⟩
abbrev main_call3_v1_0 : Ref sig .tc := ⟨.hbm, 314, rfl⟩
abbrev main_v31 : Ref sig .tc := ⟨.hbm, 315, rfl⟩

abbrev nD : Nat := 1
abbrev τ : Topo := Topo.v7x

variable {F : FTy → Type} [FloatOps F]
-- ==== Proof.State.lean ====
/-
  What one grid point of the kernel computes, as plain functions of the contents it finds: the hidden layer it stores at
  the first point, the two halves of a logits tile and where they go in the staging buffer and in the two-slot scratch, the
  best score and its column of a tile, and the running best after the tile is merged. No memory appears here; `Body` shows
  that the kernel's body leaves exactly these values.
-/
module

public import proofs.«01_k».proof.Proof.Gen.KernelIdeal.Skeleton
public import Idealize.ShloMosaic.Lib.VecWindow

@[expose] public section

noncomputable section

namespace Cert.KernelIdeal.Body

open Cert.KernelIdeal Cert.KernelIdeal.Gen
open Idealize.ShloMosaic

variable {F : FTy → Type} [FloatOps F]

/-- The first half (columns 0 to 2047) of a 128 × 4096 tile. -/
abbrev lo {α : Type} (X : S128x4096.Idx → α) : S128x2048.Idx → α :=
  VecWindow.window X ![0, 0] S128x2048.size inb_S128x4096_S128x2048_0_0
/-- The second half (columns 2048 to 4095) of a 128 × 4096 tile. -/
abbrev hi {α : Type} (X : S128x4096.Idx → α) : S128x2048.Idx → α :=
  VecWindow.window X ![0, 2048] S128x2048.size inb_S128x4096_S128x2048_0_2048
/-- The first half of a 1 × 4096 row. -/
abbrev lo1 {α : Type} (X : S1x4096.Idx → α) : S1x2048.Idx → α :=
  VecWindow.window X ![0, 0] S1x2048.size inb_S1x4096_S1x2048_0_0
/-- The second half of a 1 × 4096 row. -/
abbrev hi1 {α : Type} (X : S1x4096.Idx → α) : S1x2048.Idx → α :=
  VecWindow.window X ![0, 2048] S1x2048.size inb_S1x4096_S1x2048_0_2048

/-- The logits of the tile's first half, from the hidden layer `h`, the mask tile `M`, the weight tile `W` and the bias
    row `B`. -/
def logLo (h : Vec F S128x128 .f32) (M : Vec F S128x4096 .i8) (W : Vec F S128x4096 .f32) (B : Vec F S1x4096 .f32) :
    Vec F S128x2048 .f32 := k0_pay11 h (lo W) (lo1 B) (lo M)
/-- The logits of the tile's second half. -/
def logHi (h : Vec F S128x128 .f32) (M : Vec F S128x4096 .i8) (W : Vec F S128x4096 .f32) (B : Vec F S1x4096 .f32) :
    Vec F S128x2048 .f32 := k0_pay4 (k0_pay13 h (hi W) (hi1 B)) (k0_pay14 (hi M)) (k0_pay15 (F := F))

/-- The logits staging buffer after a point that computes a tile. -/
def outNew (X : Vec F S128x4096 .f32) (h : Vec F S128x128 .f32) (M : Vec F S128x4096 .i8) (W : Vec F S128x4096 .f32)
    (B : Vec F S1x4096 .f32) : Vec F S128x4096 .f32 :=
  VecWindow.put (VecWindow.put X ![0, 0] S128x2048.size (logLo h M W B)) ![0, 2048] S128x2048.size (logHi h M W B)

/-- The two-slot scratch after point `i` has stored its tile in the slot of `i`'s parity. -/
def lscrNew (i : grid0.Coords) (l : Vec F S2x128x4096 .f32) (h : Vec F S128x128 .f32) (M : Vec F S128x4096 .i8)
    (W : Vec F S128x4096 .f32) (B : Vec F S1x4096 .f32) : Vec F S2x128x4096 .f32 :=
  VecWindow.put (VecWindow.put l (k0_off1 i) S1x128x2048.size (k0_pay12 h (lo W) (lo1 B) (lo M)))
    (k0_off2 i) S1x128x2048.size (k0_pay5 (k0_pay13 h (hi W) (hi1 B)) (k0_pay14 (hi M)) (k0_pay15 (F := F)))

/-- The grid coordinate as the 32-bit word the body reads. -/
abbrev gw (i : grid0.Coords) : BitVec 32 := BitVec.ofNat 32 (i 0).val

/-- The first column of the first half of the tile point `i` scores: the previous point's tile. -/
def offLo (i : grid0.Coords) : BitVec 32 := Scalar.addi (Scalar.muli (Scalar.subi (gw i) 1#32) 4096#32) 0#32
/-- The first column of the second half of that tile. -/
def offHi (i : grid0.Coords) : BitVec 32 := Scalar.addi (Scalar.muli (Scalar.subi (gw i) 1#32) 4096#32) 2048#32
/-- Column numbers within a half tile. -/
def cols : IVec S128x2048 32 := iota .tc S128x2048 32 [1] iota_S128x2048_d1_w32

/-- The generator's words over the first half before its last round: three vectors the last round combines. -/
def wordsLo (i : grid0.Coords) : IVec S128x2048 32 × IVec S128x2048 32 × IVec S128x2048 32 :=
  let v51 := k0_pay25 (gw i)
  let v52 := k0_pay26 (gw i)
  let v53 := k0_pay27
  let v94 := k0_pay36 v51 v52 v53
  let v98 := k0_pay37 v51 v52 v53
  let v139 := k0_pay47 v94 v98
  let v140 := k0_pay48 v94 v98
  let v142 := k0_pay49 v94 v98
  let v143 := k0_pay50
  (k0_pay61 v139 v140 v142 v143, k0_pay62 v139 v140 v142 v143, k0_pay63)
/-- The generator's words over the second half, likewise. -/
def wordsHi (i : grid0.Coords) : IVec S128x2048 32 × IVec S128x2048 32 × IVec S128x2048 32 :=
  let v273 := k0_pay77 (gw i) k0_pay16 cols
  let v275 := k0_pay78 (gw i) k0_pay16 cols
  let v277 := k0_pay79 (gw i) k0_pay16 cols
  let v319 := k0_pay88 v273 v275 v277
  let v320 := k0_pay89 v273 v275 v277
  let v322 := k0_pay90 v273 v275 v277
  let v367 := k0_pay101 v319 v320 v322
  let v368 := k0_pay102 v319 v320 v322
  (k0_pay112 v367 v368, k0_pay113 v367 v368, k0_pay114 v367 v368)

/-- The row maxima of the first half's scores, `L` its logits. -/
def maxLo (i : grid0.Coords) (L : Vec F S1x128x2048 .f32) : FVec F S128x1 .f32 :=
  k0_pay65 cols (offLo i) (wordsLo i).1 (wordsLo i).2.1 (wordsLo i).2.2 L
/-- Where the first half's scores equal their row's maximum. -/
def eqLo (i : grid0.Coords) (L : Vec F S1x128x2048 .f32) : IVec S128x2048 1 :=
  k0_pay66 cols (offLo i) (wordsLo i).1 (wordsLo i).2.1 (wordsLo i).2.2 L
/-- The best score of the tile after its first half. -/
def bestLo (i : grid0.Coords) (L : Vec F S1x128x2048 .f32) : FVec F S128x1 .f32 :=
  k0_pay68 (k0_pay17 (F := F)) (maxLo i L)
/-- Its column. -/
def argLo (i : grid0.Coords) (L : Vec F S1x128x2048 .f32) : IVec S128x1 32 :=
  k0_pay69 cols (k0_pay17 (F := F)) k0_pay18 (offLo i) (maxLo i L) (eqLo i L) 100000#32
/-- The row maxima of the second half's scores. -/
def maxHi (i : grid0.Coords) (L : Vec F S1x128x2048 .f32) : FVec F S128x1 .f32 :=
  k0_pay116 cols (offHi i) (wordsHi i).1 (wordsHi i).2.1 (wordsHi i).2.2 L
/-- The first column, within the second half, of its row's maximum. -/
def argHi (i : grid0.Coords) (L : Vec F S1x128x2048 .f32) : IVec S128 32 :=
  k0_pay117 cols (offHi i) (wordsHi i).1 (wordsHi i).2.1 (wordsHi i).2.2 L

/-- The running best score after the tile with halves `L`, `L'` is merged into `bv`. -/
def valNew (i : grid0.Coords) (L L' : Vec F S1x128x2048 .f32) (bv : Vec F S128x1 .f32) : Vec F S128x1 .f32 :=
  k0_pay9 (bestLo i L) (maxHi i L') bv bv
/-- The running best column after that merge. -/
def idxNew (i : grid0.Coords) (L L' : Vec F S1x128x2048 .f32) (bv : Vec F S128x1 .f32) (bi : Vec F S128x1 .i32) :
    Vec F S128x1 .i32 :=
  k0_pay10 (bestLo i L) (argLo i L) (offHi i) (maxHi i L') (argHi i L') bv bi

/-- The first half of the tile in the slot a scoring point reads. -/
abbrev slotLo (i : grid0.Coords) (h3 : k0_cond3 i = 1#1) (l : Vec F S2x128x4096 .f32) : Vec F S1x128x2048 .f32 :=
  VecWindow.window l (k0_off3 i) S1x128x2048.size (k0_off3_inb i h3)
/-- The second half of that tile. -/
abbrev slotHi (i : grid0.Coords) (h3 : k0_cond3 i = 1#1) (l : Vec F S2x128x4096 .f32) : Vec F S1x128x2048 .f32 :=
  VecWindow.window l (k0_off4 i) S1x128x2048.size (k0_off4_inb i h3)

/-- The slot a point's tile goes to is the parity of the point. -/
theorem off1_eq : ∀ i : grid0.Coords, k0_off1 i = ![(i 0).val % 2, 0, 0] := by decide +kernel
/-- Where the second half of a tile is stored in the scratch of logits. -/
theorem off2_eq : ∀ i : grid0.Coords, k0_off2 i = ![(i 0).val % 2, 0, 2048] := by decide +kernel
/-- The slot a scoring point reads is the other one (the first point, which scores nothing, would wrap). -/
theorem off3_eq : ∀ i : grid0.Coords, k0_off3 i = ![((i 0).val + 1) % 2 + 4294967294 * (1 - (i 0).val), 0, 0] := by
  decide +kernel
/-- Where the second half of the previous tile is read in the scratch of logits. -/
theorem off4_eq : ∀ i : grid0.Coords, k0_off4 i = ![((i 0).val + 1) % 2 + 4294967294 * (1 - (i 0).val), 0, 2048] := by
  decide +kernel

instance closedOff1 (i : grid0.Coords) : ClosedOff (k0_off1 i) := ⟨_, off1_eq i⟩
instance closedOff2 (i : grid0.Coords) : ClosedOff (k0_off2 i) := ⟨_, off2_eq i⟩
instance closedOff3 (i : grid0.Coords) : ClosedOff (k0_off3 i) := ⟨_, off3_eq i⟩
instance closedOff4 (i : grid0.Coords) : ClosedOff (k0_off4 i) := ⟨_, off4_eq i⟩

/-- A scoring point past the first reads the slot its own tile does not go to: what it reads is what it found. -/
theorem slotLo_lscrNew (i : grid0.Coords) (h3 : k0_cond3 i = 1#1) (l : Vec F S2x128x4096 .f32) (h : Vec F S128x128 .f32)
    (M : Vec F S128x4096 .i8) (W : Vec F S128x4096 .f32) (B : Vec F S1x4096 .f32) :
    slotLo i h3 (lscrNew i l h M W B) = slotLo i h3 l := by
  have hd : k0_off3 i 0 + 1 ≤ k0_off1 i 0 ∨ k0_off1 i 0 + 1 ≤ k0_off3 i 0 := by
    rw [off1_eq, off3_eq]; simp only [Matrix.cons_val_zero]; omega
  have h12 : k0_off2 i 0 = k0_off1 i 0 := by rw [off1_eq, off2_eq]; rfl
  unfold slotLo lscrNew
  rw [VecWindow.window_put_of_disjoint _ _ _ _ _ _ _ 0 (by rw [h12]; exact hd),
    VecWindow.window_put_of_disjoint _ _ _ _ _ _ _ 0 hd]
/-- The same of the second half. -/
theorem slotHi_lscrNew (i : grid0.Coords) (h3 : k0_cond3 i = 1#1) (l : Vec F S2x128x4096 .f32) (h : Vec F S128x128 .f32)
    (M : Vec F S128x4096 .i8) (W : Vec F S128x4096 .f32) (B : Vec F S1x4096 .f32) :
    slotHi i h3 (lscrNew i l h M W B) = slotHi i h3 l := by
  have hd : k0_off4 i 0 + 1 ≤ k0_off1 i 0 ∨ k0_off1 i 0 + 1 ≤ k0_off4 i 0 := by
    rw [off1_eq, off4_eq]; simp only [Matrix.cons_val_zero]; omega
  have h12 : k0_off2 i 0 = k0_off1 i 0 := by rw [off1_eq, off2_eq]; rfl
  unfold slotHi lscrNew
  rw [VecWindow.window_put_of_disjoint _ _ _ _ _ _ _ 0 (by rw [h12]; exact hd),
    VecWindow.window_put_of_disjoint _ _ _ _ _ _ _ 0 hd]

end Cert.KernelIdeal.Body

end
-- ==== Proof.Body.lean ====
/-
  The kernel's body at one grid point, as a triple: from the twelve buffers it is given, held at any contents, to the same
  buffers at the contents `State` names. Three kinds of point: the first stores the hidden layer, resets the running best
  and computes tile 0; a middle point computes its own tile and scores the previous one; the last scores the last tile and
  hands the best columns out.
-/
module

public import proofs.«01_k».proof.Proof.State
public import proofs.«01_k».proof.Proof.Gen.KernelIdeal.Frame
public import Idealize.ShloMosaic.Lib.Pipeline.TableIdle

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word the body compares with zero to know it is at the first point. -/
abbrev cond1 (i : grid0.Coords) : BitVec 1 :=
  Scalar.cmpi .ne (Scalar.extui (Scalar.cmpi .eq (gw i) 0#32) : BitVec 32) 0#32

section
variable (c : Dev nD) (i : grid0.Coords)
  (a1 : Memref sig .tc .vmem S128x128 .f32) (w1 : a1.IsWhole) (a2 : Memref sig .tc .vmem S128x4096 .i8) (w2 : a2.IsWhole)
  (a3 : Memref sig .tc .vmem S128x128 .f32) (w3 : a3.IsWhole) (a4 : Memref sig .tc .vmem S1x128 .f32) (w4 : a4.IsWhole)
  (a5 : Memref sig .tc .vmem S128x4096 .f32) (w5 : a5.IsWhole) (a6 : Memref sig .tc .vmem S1x4096 .f32) (w6 : a6.IsWhole)
  (a7 : Memref sig .tc .vmem S128x4096 .f32) (w7 : a7.IsWhole) (a8 : Memref sig .tc .vmem S128x1 .i32) (w8 : a8.IsWhole)
  (a9 : Memref sig .tc .vmem S128x128 .f32) (w9 : a9.IsWhole) (a10 : Memref sig .tc .vmem S2x128x4096 .f32) (w10 : a10.IsWhole)
  (a11 : Memref sig .tc .vmem S128x1 .f32) (w11 : a11.IsWhole) (a12 : Memref sig .tc .vmem S128x1 .i32) (w12 : a12.IsWhole)

/-- The twelve buffers, each held whole at the contents given. -/
abbrev held (X1 : Vec F S128x128 .f32) (X2 : Vec F S128x4096 .i8) (X3 : Vec F S128x128 .f32) (X4 : Vec F S1x128 .f32)
    (X5 : Vec F S128x4096 .f32) (X6 : Vec F S1x4096 .f32) (X7 : Vec F S128x4096 .f32) (X8 : Vec F S128x1 .i32)
    (h : Vec F S128x128 .f32) (l : Vec F S2x128x4096 .f32) (bv : Vec F S128x1 .f32) (bi : Vec F S128x1 .i32) : sProp 𝕄 :=
  iprop(owns (c : Thread nD τ) a1 fullShare X1 ∗ owns (c : Thread nD τ) a2 fullShare X2 ∗ owns (c : Thread nD τ) a3 fullShare X3
    ∗ owns (c : Thread nD τ) a4 fullShare X4 ∗ owns (c : Thread nD τ) a5 fullShare X5 ∗ owns (c : Thread nD τ) a6 fullShare X6
    ∗ owns (c : Thread nD τ) a7 fullShare X7 ∗ owns (c : Thread nD τ) a8 fullShare X8 ∗ owns (c : Thread nD τ) a9 fullShare h
    ∗ owns (c : Thread nD τ) a10 fullShare l ∗ owns (c : Thread nD τ) a11 fullShare bv ∗ owns (c : Thread nD τ) a12 fullShare bi)

/-- The first point. -/
theorem first (E : Set ℕ) (h1 : cond1 i = 1#1) (h2 : k0_cond2 i = 1#1) (h3 : ¬ k0_cond3 i = 1#1) (h4 : ¬ k0_cond4 i = 1#1)
    (X1 : Vec F S128x128 .f32) (X2 : Vec F S128x4096 .i8) (X3 : Vec F S128x128 .f32) (X4 : Vec F S1x128 .f32)
    (X5 : Vec F S128x4096 .f32) (X6 : Vec F S1x4096 .f32) (X7 : Vec F S128x4096 .f32) (X8 : Vec F S128x1 .i32)
    (h : Vec F S128x128 .f32) (l : Vec F S2x128x4096 .f32) (bv : Vec F S128x1 .f32) (bi : Vec F S128x1 .i32)
    (K : PUnit → sProp 𝕄) :
    iprop(held c a1 a2 a3 a4 a5 a6 a7 a8 a9 a10 a11 a12 X1 X2 X3 X4 X5 X6 X7 X8 h l bv bi
        ∗ (held c a1 a2 a3 a4 a5 a6 a7 a8 a9 a10 a11 a12 X1 X2 X3 X4 X5 X6 (outNew X7 (k0_pay1 X1 X3 X4) X2 X5 X6) X8
            (k0_pay1 X1 X3 X4) (lscrNew i l (k0_pay1 X1 X3 X4) X2 X5 X6) (k0_pay2 (F := F)) k0_pay3 -∗ K ⟨⟩))
      ⊢ wp frame (wpE (defs₀ (F := F)) Variants.none c none) E
          (cc0__kern i a1 w1 a2 w2 a3 w3 a4 w4 a5 w5 a6 w6 a7 w7 a8 w8 a9 w9 a10 w10 a11 w11 a12 w12) K := by
  simp only [held, owns]
  rw [cc0__kern_eq_skeleton]; unfold cc0__kern_skel
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  subst hf1 hf2 hf3 hf4 hf5 hf6 hf7 hf8 hf9 hf10 hf11 hf12
  sl_exec
  sl_step
  have e9 : first.sl.v13 a1 a3 a4 a9 f1 f3 f4
      = k0_pay1 (a1.view.read (Elt F) f1) (a3.view.read (Elt F) f3) (a4.view.read (Elt F) f4) := by
    unfold first.sl.v13 first.sl.H9_1
    rw [View.readCov_full, View.readAt_full, View.readAt_full, View.readAt_full]
  iapply Hk
  isplitl [H1]
  · iexists _; isplitr
    rotate_left
    · iexact H1
    · ipureintro; rfl
  isplitl [H2]
  · iexists _; isplitr
    rotate_left
    · iexact H2
    · ipureintro; rfl
  isplitl [H3]
  · iexists _; isplitr
    rotate_left
    · iexact H3
    · ipureintro; rfl
  isplitl [H4]
  · iexists _; isplitr
    rotate_left
    · iexact H4
    · ipureintro; rfl
  isplitl [H5]
  · iexists _; isplitr
    rotate_left
    · iexact H5
    · ipureintro; rfl
  isplitl [H6]
  · iexists _; isplitr
    rotate_left
    · iexact H6
    · ipureintro; rfl
  isplitl [H7]
  · iexists _; isplitr
    rotate_left
    · iexact H7
    · ipureintro; unfold first.sl.r first.sl.r_1; rw [View.read_writes_cons_put _ _ _ _ _ rfl, View.read_writes_cons_put _ _ _ _ _ rfl, e9]; rfl
  isplitl [H8]
  · iexists _; isplitr
    rotate_left
    · iexact H8
    · ipureintro; rfl
  isplitl [H9]
  · iexists _; isplitr
    rotate_left
    · iexact H9
    · ipureintro; unfold first.sl.H9_1; rw [View.read_writes_full, View.readAt_full, View.readAt_full, View.readAt_full]
  isplitl [H10]
  · iexists _; isplitr
    rotate_left
    · iexact H10
    · ipureintro; unfold first.sl.r first.sl.r_1; rw [View.read_writes_cons_put _ _ _ _ _ rfl, View.read_writes_cons_put _ _ _ _ _ rfl, e9]; rfl
  isplitl [H11]
  · iexists _; isplitr
    rotate_left
    · iexact H11
    · ipureintro; exact View.read_writes_full _ _ _ _ _
  · iexists _; isplitr
    rotate_left
    · iexact H12
    · ipureintro; exact View.read_writes_full _ _ _ _ _

/-- A middle point. -/
theorem middle (E : Set ℕ) (h1 : ¬ cond1 i = 1#1) (h2 : k0_cond2 i = 1#1) (h3 : k0_cond3 i = 1#1) (h4 : ¬ k0_cond4 i = 1#1)
    (X1 : Vec F S128x128 .f32) (X2 : Vec F S128x4096 .i8) (X3 : Vec F S128x128 .f32) (X4 : Vec F S1x128 .f32)
    (X5 : Vec F S128x4096 .f32) (X6 : Vec F S1x4096 .f32) (X7 : Vec F S128x4096 .f32) (X8 : Vec F S128x1 .i32)
    (h : Vec F S128x128 .f32) (l : Vec F S2x128x4096 .f32) (bv : Vec F S128x1 .f32) (bi : Vec F S128x1 .i32)
    (K : PUnit → sProp 𝕄) :
    iprop(held c a1 a2 a3 a4 a5 a6 a7 a8 a9 a10 a11 a12 X1 X2 X3 X4 X5 X6 X7 X8 h l bv bi
        ∗ (held c a1 a2 a3 a4 a5 a6 a7 a8 a9 a10 a11 a12 X1 X2 X3 X4 X5 X6 (outNew X7 h X2 X5 X6) X8 h
            (lscrNew i l h X2 X5 X6) (valNew i (slotLo i h3 l) (slotHi i h3 l) bv)
            (idxNew i (slotLo i h3 l) (slotHi i h3 l) bv bi) -∗ K ⟨⟩))
      ⊢ wp frame (wpE (defs₀ (F := F)) Variants.none c none) E
          (cc0__kern i a1 w1 a2 w2 a3 w3 a4 w4 a5 w5 a6 w6 a7 w7 a8 w8 a9 w9 a10 w10 a11 w11 a12 w12) K := by
  simp only [held, owns]
  rw [cc0__kern_eq_skeleton]; unfold cc0__kern_skel
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  subst hf1 hf2 hf3 hf4 hf5 hf6 hf7 hf8 hf9 hf10 hf11 hf12
  sl_exec
  sl_step
  have e10 : a10.view.read (Elt F) (a10.view.writes (Elt F) f10 (middle.sl.H10_2 i a2 a5 a6 a9 h2 f2 f5 f6 f9))
      = lscrNew i (a10.view.read (Elt F) f10) (a9.view.read (Elt F) f9) (a2.view.read (Elt F) f2)
          (a5.view.read (Elt F) f5) (a6.view.read (Elt F) f6) := by
    unfold middle.sl.H10_2 middle.sl.r middle.sl.r_1
    rw [View.read_writes_cons_put _ _ _ _ _ rfl, View.read_writes_cons_put _ _ _ _ _ rfl, View.readAt_full]; rfl
  have s3 : a10.view.readAt (Elt F) (Rect.unit (s := S2x128x4096) (k0_off3 i) S1x128x2048.size (k0_off3_inb i h3)).toLoadRect (a10.view.writes (Elt F) f10 (middle.sl.H10_2 i a2 a5 a6 a9 h2 f2 f5 f6 f9))
      = slotLo i h3 (a10.view.read (Elt F) f10) :=
    (View.readAt_unit _ _ _ rfl _).trans (by rw [e10]; exact slotLo_lscrNew ..)
  have s4 : a10.view.readAt (Elt F) (Rect.unit (s := S2x128x4096) (k0_off4 i) S1x128x2048.size (k0_off4_inb i h3)).toLoadRect (a10.view.writes (Elt F) f10 (middle.sl.H10_2 i a2 a5 a6 a9 h2 f2 f5 f6 f9))
      = slotHi i h3 (a10.view.read (Elt F) f10) :=
    (View.readAt_unit _ _ _ rfl _).trans (by rw [e10]; exact slotHi_lscrNew ..)
  iapply Hk
  isplitl [H1]
  · iexists _; isplitr
    rotate_left
    · iexact H1
    · ipureintro; rfl
  isplitl [H2]
  · iexists _; isplitr
    rotate_left
    · iexact H2
    · ipureintro; rfl
  isplitl [H3]
  · iexists _; isplitr
    rotate_left
    · iexact H3
    · ipureintro; rfl
  isplitl [H4]
  · iexists _; isplitr
    rotate_left
    · iexact H4
    · ipureintro; rfl
  isplitl [H5]
  · iexists _; isplitr
    rotate_left
    · iexact H5
    · ipureintro; rfl
  isplitl [H6]
  · iexists _; isplitr
    rotate_left
    · iexact H6
    · ipureintro; rfl
  isplitl [H7]
  · iexists _; isplitr
    rotate_left
    · iexact H7
    · ipureintro; unfold middle.sl.r middle.sl.r_1; rw [View.read_writes_cons_put _ _ _ _ _ rfl, View.read_writes_cons_put _ _ _ _ _ rfl, View.readAt_full]; rfl
  isplitl [H8]
  · iexists _; isplitr
    rotate_left
    · iexact H8
    · ipureintro; rfl
  isplitl [H9]
  · iexists _; isplitr
    rotate_left
    · iexact H9
    · ipureintro; rfl
  isplitl [H10]
  · iexists _; isplitr
    rotate_left
    · iexact H10
    · ipureintro; exact e10
  isplitl [H11]
  · iexists _; isplitr
    rotate_left
    · iexact H11
    · ipureintro; exact (View.read_writes_full _ _ _ _ _).trans ((show _ = valNew i (a10.view.readAt (Elt F) (Rect.unit (s := S2x128x4096) (k0_off3 i) S1x128x2048.size (k0_off3_inb i h3)).toLoadRect (a10.view.writes (Elt F) f10 (middle.sl.H10_2 i a2 a5 a6 a9 h2 f2 f5 f6 f9))) (a10.view.readAt (Elt F) (Rect.unit (s := S2x128x4096) (k0_off4 i) S1x128x2048.size (k0_off4_inb i h3)).toLoadRect (a10.view.writes (Elt F) f10 (middle.sl.H10_2 i a2 a5 a6 a9 h2 f2 f5 f6 f9))) (a11.view.readAt (Elt F) (Rect.unit ![0, 0] S128x1.size inb_S128x1_S128x1_0_0).toLoadRect f11) from rfl).trans
        (by rw [s3, s4, View.readAt_full]))
  · iexists _; isplitr
    rotate_left
    · iexact H12
    · ipureintro; exact (View.read_writes_full _ _ _ _ _).trans ((show _ = idxNew i (a10.view.readAt (Elt F) (Rect.unit (s := S2x128x4096) (k0_off3 i) S1x128x2048.size (k0_off3_inb i h3)).toLoadRect (a10.view.writes (Elt F) f10 (middle.sl.H10_2 i a2 a5 a6 a9 h2 f2 f5 f6 f9))) (a10.view.readAt (Elt F) (Rect.unit (s := S2x128x4096) (k0_off4 i) S1x128x2048.size (k0_off4_inb i h3)).toLoadRect (a10.view.writes (Elt F) f10 (middle.sl.H10_2 i a2 a5 a6 a9 h2 f2 f5 f6 f9))) (a11.view.readAt (Elt F) (Rect.unit ![0, 0] S128x1.size inb_S128x1_S128x1_0_0).toLoadRect f11) (a12.view.readAt (Elt F) (Rect.unit ![0, 0] S128x1.size inb_S128x1_S128x1_0_0).toLoadRect f12) from rfl).trans
        (by rw [s3, s4, View.readAt_full, View.readAt_full]))

/-- The last point. -/
theorem last (E : Set ℕ) (h1 : ¬ cond1 i = 1#1) (h2 : ¬ k0_cond2 i = 1#1) (h3 : k0_cond3 i = 1#1) (h4 : k0_cond4 i = 1#1)
    (X1 : Vec F S128x128 .f32) (X2 : Vec F S128x4096 .i8) (X3 : Vec F S128x128 .f32) (X4 : Vec F S1x128 .f32)
    (X5 : Vec F S128x4096 .f32) (X6 : Vec F S1x4096 .f32) (X7 : Vec F S128x4096 .f32) (X8 : Vec F S128x1 .i32)
    (h : Vec F S128x128 .f32) (l : Vec F S2x128x4096 .f32) (bv : Vec F S128x1 .f32) (bi : Vec F S128x1 .i32)
    (K : PUnit → sProp 𝕄) :
    iprop(held c a1 a2 a3 a4 a5 a6 a7 a8 a9 a10 a11 a12 X1 X2 X3 X4 X5 X6 X7 X8 h l bv bi
        ∗ (held c a1 a2 a3 a4 a5 a6 a7 a8 a9 a10 a11 a12 X1 X2 X3 X4 X5 X6 X7 (idxNew i (slotLo i h3 l) (slotHi i h3 l) bv bi) h l
            (valNew i (slotLo i h3 l) (slotHi i h3 l) bv) (idxNew i (slotLo i h3 l) (slotHi i h3 l) bv bi) -∗ K ⟨⟩))
      ⊢ wp frame (wpE (defs₀ (F := F)) Variants.none c none) E
          (cc0__kern i a1 w1 a2 w2 a3 w3 a4 w4 a5 w5 a6 w6 a7 w7 a8 w8 a9 w9 a10 w10 a11 w11 a12 w12) K := by
  simp only [held, owns]
  rw [cc0__kern_eq_skeleton]; unfold cc0__kern_skel
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  subst hf1 hf2 hf3 hf4 hf5 hf6 hf7 hf8 hf9 hf10 hf11 hf12
  sl_exec
  sl_step
  have s3 : a10.view.readAt (Elt F) (Rect.unit (s := S2x128x4096) (k0_off3 i) S1x128x2048.size (k0_off3_inb i h3)).toLoadRect f10
      = slotLo i h3 (a10.view.read (Elt F) f10) := View.readAt_unit _ _ _ rfl _
  have s4 : a10.view.readAt (Elt F) (Rect.unit (s := S2x128x4096) (k0_off4 i) S1x128x2048.size (k0_off4_inb i h3)).toLoadRect f10
      = slotHi i h3 (a10.view.read (Elt F) f10) := View.readAt_unit _ _ _ rfl _
  have e12 : idxNew i (a10.view.readAt (Elt F) (Rect.unit (s := S2x128x4096) (k0_off3 i) S1x128x2048.size (k0_off3_inb i h3)).toLoadRect f10) (a10.view.readAt (Elt F) (Rect.unit (s := S2x128x4096) (k0_off4 i) S1x128x2048.size (k0_off4_inb i h3)).toLoadRect f10) (a11.view.readAt (Elt F) (Rect.unit ![0, 0] S128x1.size inb_S128x1_S128x1_0_0).toLoadRect f11) (a12.view.readAt (Elt F) (Rect.unit ![0, 0] S128x1.size inb_S128x1_S128x1_0_0).toLoadRect f12)
      = idxNew i (slotLo i h3 (a10.view.read (Elt F) f10)) (slotHi i h3 (a10.view.read (Elt F) f10))
          (a11.view.read (Elt F) f11) (a12.view.read (Elt F) f12) := by
    rw [s3, s4, View.readAt_full, View.readAt_full]
  iapply Hk
  isplitl [H1]
  · iexists _; isplitr
    rotate_left
    · iexact H1
    · ipureintro; rfl
  isplitl [H2]
  · iexists _; isplitr
    rotate_left
    · iexact H2
    · ipureintro; rfl
  isplitl [H3]
  · iexists _; isplitr
    rotate_left
    · iexact H3
    · ipureintro; rfl
  isplitl [H4]
  · iexists _; isplitr
    rotate_left
    · iexact H4
    · ipureintro; rfl
  isplitl [H5]
  · iexists _; isplitr
    rotate_left
    · iexact H5
    · ipureintro; rfl
  isplitl [H6]
  · iexists _; isplitr
    rotate_left
    · iexact H6
    · ipureintro; rfl
  isplitl [H7]
  · iexists _; isplitr
    rotate_left
    · iexact H7
    · ipureintro; rfl
  isplitl [H8]
  · iexists _; isplitr
    rotate_left
    · iexact H8
    · ipureintro; exact (View.read_writes_full _ _ _ _ _).trans ((View.readCov_full _ _ _ _ _).trans e12)
  isplitl [H9]
  · iexists _; isplitr
    rotate_left
    · iexact H9
    · ipureintro; rfl
  isplitl [H10]
  · iexists _; isplitr
    rotate_left
    · iexact H10
    · ipureintro; rfl
  isplitl [H11]
  · iexists _; isplitr
    rotate_left
    · iexact H11
    · ipureintro; exact (View.read_writes_full _ _ _ _ _).trans ((show _ = valNew i (a10.view.readAt (Elt F) (Rect.unit (s := S2x128x4096) (k0_off3 i) S1x128x2048.size (k0_off3_inb i h3)).toLoadRect f10) (a10.view.readAt (Elt F) (Rect.unit (s := S2x128x4096) (k0_off4 i) S1x128x2048.size (k0_off4_inb i h3)).toLoadRect f10) (a11.view.readAt (Elt F) (Rect.unit ![0, 0] S128x1.size inb_S128x1_S128x1_0_0).toLoadRect f11) from rfl).trans
        (by rw [s3, s4, View.readAt_full]))
  · iexists _; isplitr
    rotate_left
    · iexact H12
    · ipureintro; exact (View.read_writes_full _ _ _ _ _).trans e12

end

end Cert.KernelIdeal.Body

end
-- ==== Proof.Grid.lean ====
/-
  The grid's twenty-six points, decided once: which of the body's four conditions hold where, and where the logits' window
  is written back.
-/
module

public import proofs.«01_k».proof.Proof.Body

@[expose] public section

namespace Cert.KernelIdeal.Body

open Cert.KernelIdeal Cert.KernelIdeal.Gen
open Idealize.ShloMosaic

/-- The first condition (store the hidden layer, reset the best) holds at point 0 only. -/
theorem cond1_iff : ∀ t : Fin grid0.N, cond1 (grid0.coords t) = 1#1 ↔ t.val = 0 := by decide +kernel
/-- The second (compute a tile of logits) holds at every point but the last. -/
theorem cond2_iff : ∀ t : Fin grid0.N, k0_cond2 (grid0.coords t) = 1#1 ↔ t.val ≠ 25 := by decide +kernel
/-- The third (score the previous tile) holds at every point but the first. -/
theorem cond3_iff : ∀ t : Fin grid0.N, k0_cond3 (grid0.coords t) = 1#1 ↔ t.val ≠ 0 := by decide +kernel
/-- The fourth (hand the best columns out) holds at the last point only. -/
theorem cond4_iff : ∀ t : Fin grid0.N, k0_cond4 (grid0.coords t) = 1#1 ↔ t.val = 25 := by decide +kernel
/-- A point's one coordinate is its position. -/
theorem coords_val : ∀ t : Fin grid0.N, (grid0.coords t 0).val = t.val := by decide +kernel
/-- The logits' block is written back at every point but 24, whose block point 25 writes back. -/
theorem flush6_iff : ∀ t : Fin grid0.N, win0_6.flush t = true ↔ t.val ≠ 24 := by decide +kernel
/-- The best columns are written back at the last point only. -/
theorem flush7_iff : ∀ t : Fin grid0.N, win0_7.flush t = true ↔ t.val = 25 := by decide +kernel
/-- The logits' window is idle at the last point only. -/
theorem idle6_iff : ∀ t : Fin grid0.N, idle0 6 (grid0.coords t) = true ↔ t.val = 25 := by decide +kernel
/-- The best columns' window is idle at every point but the last. -/
theorem idle7_iff : ∀ t : Fin grid0.N, idle0 7 (grid0.coords t) = true ↔ t.val ≠ 25 := by decide +kernel

end Cert.KernelIdeal.Body
-- ==== Proof.Data.lean ====
/-
  The proof data of the kernel's one pipeline, but for what the two results' buffers and the scratch hold: every input's
  staging buffer holds, on the part inside its array, the block the point fetches.
-/
module

public import proofs.«01_k».proof.Proof.Grid

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-- The pipeline's proof data at given contents of the logits' buffer (`a6`) and the best columns' (`a7`) after each point,
    and a given invariant `Φ` between points. Past an array's end a clipped block is filled with zeros nothing reads. -/
def dat (c : Dev nD) (a6 : Fin cfg0.N → Vec F S128x4096 .f32) (a7 : Fin cfg0.N → Vec F S128x1 .i32)
    (Φ : Fin (cfg0.N + 1) → sProp 𝕄) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => 0#8) (iblk m c 1 t)
    | ⟨2, _⟩ => iblk m c 2 t
    | ⟨3, _⟩ => iblk m c 3 t
    | ⟨4, _⟩ => win0_4.fill (grid0.coords t) (fun _ => Scalar.ofBits .f32 0#32) (iblk m c 4 t)
    | ⟨5, _⟩ => win0_5.fill (grid0.coords t) (fun _ => Scalar.ofBits .f32 0#32) (iblk m c 5 t)
    | ⟨6, _⟩ => a6 t
    | ⟨7, _⟩ => a7 t
  Φ := Φ
  q _ := fullShare
  owed _ := 0

variable (c : Dev nD)

/-- The mask's buffer, before the body: the point's block, whether or not the point fetched it, and past the array's end
    anything. -/
theorem before_1 (a6 : Fin cfg0.N → Vec F S128x4096 .f32) (a7 : Fin cfg0.N → Vec F S128x1 .i32)
    (Φ : Fin (cfg0.N + 1) → sProp 𝕄) (t : Fin cfg0.N) (d) :
    (dat m c a6 a7 Φ).before 1 t d = win0_1.fill (grid0.coords t) d (iblk m c 1 t) :=
  (Dat.before_in_eq_fetched (dat m c a6 a7 Φ) 1 rfl (fun _ => rfl)
    (fun t t' h => funext fun a => congrArg (fun x => Pipeline.Clip.of x (S128x4096.size a) (S128x100000.size a)) (congrFun h a))
    (fun t => win0_1.cut_fill _ _ _) t d).trans rfl
/-- The second layer's weights' buffer likewise. -/
theorem before_4 (a6 : Fin cfg0.N → Vec F S128x4096 .f32) (a7 : Fin cfg0.N → Vec F S128x1 .i32)
    (Φ : Fin (cfg0.N + 1) → sProp 𝕄) (t : Fin cfg0.N) (d) :
    (dat m c a6 a7 Φ).before 4 t d = win0_4.fill (grid0.coords t) d (iblk m c 4 t) :=
  (Dat.before_in_eq_fetched (dat m c a6 a7 Φ) 4 rfl (fun _ => rfl)
    (fun t t' h => funext fun a => congrArg (fun x => Pipeline.Clip.of x (S128x4096.size a) (S128x100000.size a)) (congrFun h a))
    (fun t => win0_4.cut_fill _ _ _) t d).trans rfl
/-- The second layer's bias's buffer likewise. -/
theorem before_5 (a6 : Fin cfg0.N → Vec F S128x4096 .f32) (a7 : Fin cfg0.N → Vec F S128x1 .i32)
    (Φ : Fin (cfg0.N + 1) → sProp 𝕄) (t : Fin cfg0.N) (d) :
    (dat m c a6 a7 Φ).before 5 t d = win0_5.fill (grid0.coords t) d (iblk m c 5 t) :=
  (Dat.before_in_eq_fetched (dat m c a6 a7 Φ) 5 rfl (fun _ => rfl)
    (fun t t' h => funext fun a => congrArg (fun x => Pipeline.Clip.of x (S1x4096.size a) (S1x100000.size a)) (congrFun h a))
    (fun t => win0_5.cut_fill _ _ _) t d).trans rfl
/-- The observations' buffer holds the observations. -/
theorem before_0 (a6 : Fin cfg0.N → Vec F S128x4096 .f32) (a7 : Fin cfg0.N → Vec F S128x1 .i32)
    (Φ : Fin (cfg0.N + 1) → sProp 𝕄) (t : Fin cfg0.N) (d) : (dat m c a6 a7 Φ).before 0 t d = iblk m c 0 t :=
  before0_0_of m _ rfl (fun _ => rfl) t d
/-- The first layer's weights' buffer holds them. -/
theorem before_2 (a6 : Fin cfg0.N → Vec F S128x4096 .f32) (a7 : Fin cfg0.N → Vec F S128x1 .i32)
    (Φ : Fin (cfg0.N + 1) → sProp 𝕄) (t : Fin cfg0.N) (d) : (dat m c a6 a7 Φ).before 2 t d = iblk m c 2 t :=
  before0_2_of m _ rfl (fun _ => rfl) t d
/-- The first layer's bias's buffer holds it. -/
theorem before_3 (a6 : Fin cfg0.N → Vec F S128x4096 .f32) (a7 : Fin cfg0.N → Vec F S128x1 .i32)
    (Φ : Fin (cfg0.N + 1) → sProp 𝕄) (t : Fin cfg0.N) (d) : (dat m c a6 a7 Φ).before 3 t d = iblk m c 3 t :=
  before0_3_of m _ rfl (fun _ => rfl) t d

/-- The mask's buffer may be handed back as it was found: on the part inside the array it is what the data names. -/
theorem give_1 (a6 : Fin cfg0.N → Vec F S128x4096 .f32) (a7 : Fin cfg0.N → Vec F S128x1 .i32)
    (Φ : Fin (cfg0.N + 1) → sProp 𝕄) (t : Fin cfg0.N) (d : win0_1.block.Idx → BitVec 8) :
    owns (c : Thread nD τ) (st0_1 t) fullShare (win0_1.fill (grid0.coords t) d (iblk m c 1 t))
      ⊢ (iprop(∃ d, owns (c : Thread nD τ) (st0_1 t) fullShare (win0_1.fill (grid0.coords t) d
          (win0_1.cut (grid0.coords t) ((dat m c a6 a7 Φ).after 1 t)))) : sProp 𝕄) := by
  iintro H
  iexists d
  rw [show win0_1.cut (grid0.coords t) ((dat m c a6 a7 Φ).after 1 t) = iblk m c 1 t from win0_1.cut_fill _ _ _]
  iexact H
/-- The second layer's weights' buffer likewise. -/
theorem give_4 (a6 : Fin cfg0.N → Vec F S128x4096 .f32) (a7 : Fin cfg0.N → Vec F S128x1 .i32)
    (Φ : Fin (cfg0.N + 1) → sProp 𝕄) (t : Fin cfg0.N) (d : win0_4.block.Idx → F .f32) :
    owns (c : Thread nD τ) (st0_4 t) fullShare (win0_4.fill (grid0.coords t) d (iblk m c 4 t))
      ⊢ (iprop(∃ d, owns (c : Thread nD τ) (st0_4 t) fullShare (win0_4.fill (grid0.coords t) d
          (win0_4.cut (grid0.coords t) ((dat m c a6 a7 Φ).after 4 t)))) : sProp 𝕄) := by
  iintro H
  iexists d
  rw [show win0_4.cut (grid0.coords t) ((dat m c a6 a7 Φ).after 4 t) = iblk m c 4 t from win0_4.cut_fill _ _ _]
  iexact H
/-- The second layer's bias's buffer likewise. -/
theorem give_5 (a6 : Fin cfg0.N → Vec F S128x4096 .f32) (a7 : Fin cfg0.N → Vec F S128x1 .i32)
    (Φ : Fin (cfg0.N + 1) → sProp 𝕄) (t : Fin cfg0.N) (d : win0_5.block.Idx → F .f32) :
    owns (c : Thread nD τ) (st0_5 t) fullShare (win0_5.fill (grid0.coords t) d (iblk m c 5 t))
      ⊢ (iprop(∃ d, owns (c : Thread nD τ) (st0_5 t) fullShare (win0_5.fill (grid0.coords t) d
          (win0_5.cut (grid0.coords t) ((dat m c a6 a7 Φ).after 5 t)))) : sProp 𝕄) := by
  iintro H
  iexists d
  rw [show win0_5.cut (grid0.coords t) ((dat m c a6 a7 Φ).after 5 t) = iblk m c 5 t from win0_5.cut_fill _ _ _]
  iexact H

/-- The buffers the body is given at point `t`, with the scratch, at given contents. -/
abbrev heldAt (c : Dev nD) (t : Fin cfg0.N) :=
  held (F := F) c (st0_0 t) (st0_1 t) (st0_2 t) (st0_3 t) (st0_4 t) (st0_5 t) (st0_6 t) (st0_7 t)
    (Memref.whole cc0_scratch0) (Memref.whole cc0_scratch1) (Memref.whole cc0_scratch2) (Memref.whole cc0_scratch3)

/-- At any point the body runs on, and leaves the inputs' buffers as they were. -/
theorem anyPoint (E : Set ℕ) (t : Fin cfg0.N)
    (X1 : Vec F S128x128 .f32) (X2 : Vec F S128x4096 .i8) (X3 : Vec F S128x128 .f32) (X4 : Vec F S1x128 .f32)
    (X5 : Vec F S128x4096 .f32) (X6 : Vec F S1x4096 .f32) (X7 : Vec F S128x4096 .f32) (X8 : Vec F S128x1 .i32)
    (h : Vec F S128x128 .f32) (l : Vec F S2x128x4096 .f32) (bv : Vec F S128x1 .f32) (bi : Vec F S128x1 .i32)
    (K : PUnit → sProp 𝕄) :
    iprop(heldAt c t X1 X2 X3 X4 X5 X6 X7 X8 h l bv bi
        ∗ ((∃ Y7 Y8 h' l' bv' bi', heldAt c t X1 X2 X3 X4 X5 X6 Y7 Y8 h' l' bv' bi') -∗ K ⟨⟩))
      ⊢ wp frame (wpE (defs₀ (F := F)) Variants.none c none) E (bodyAt0 t) K := by
  have h1 := cond1_iff t; have h2 := cond2_iff t; have h3 := cond3_iff t; have h4 := cond4_iff t
  iintro ⟨H, Hk⟩
  by_cases e0 : t.val = 0
  · iapply (first c (grid0.coords t) _ _ _ _ _ _ _ _ _ _ _ _ _ _ _ _ _ _ _ _ _ _ _ _ E (h1.2 e0) (h2.2 (by omega))
      (fun h => h3.1 h e0) (fun h => by have := h4.1 h; omega) X1 X2 X3 X4 X5 X6 X7 X8 h l bv bi K)
    isplitl [H]
    · iexact H
    iintro H
    iapply Hk
    iexists _, _, _, _, _, _
    iexact H
  by_cases e25 : t.val = 25
  · iapply (last c (grid0.coords t) _ _ _ _ _ _ _ _ _ _ _ _ _ _ _ _ _ _ _ _ _ _ _ _ E (fun h => e0 (h1.1 h)) (fun h => h2.1 h e25)
      (h3.2 e0) (h4.2 e25) X1 X2 X3 X4 X5 X6 X7 X8 h l bv bi K)
    isplitl [H]
    · iexact H
    iintro H
    iapply Hk
    iexists _, _, _, _, _, _
    iexact H
  · iapply (middle c (grid0.coords t) _ _ _ _ _ _ _ _ _ _ _ _ _ _ _ _ _ _ _ _ _ _ _ _ E (fun h => e0 (h1.1 h)) (h2.2 e25)
      (h3.2 e0) (fun h => e25 (h4.1 h)) X1 X2 X3 X4 X5 X6 X7 X8 h l bv bi K)
    isplitl [H]
    · iexact H
    iintro H
    iapply Hk
    iexists _, _, _, _, _, _
    iexact H

end Cert.KernelIdeal.Body

end
-- ==== Proof.FrameRun.lean ====
/-
  The frame of the kernel, at any float values: it terminates, faults nowhere, ends with its six arguments as launched and
  with every semaphore at zero. The two results' staging buffers are forgotten here; nothing is said of what they hold.
-/
module

public import proofs.«01_k».proof.Proof.Data

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame's proof data: the scratch at any contents between points, the results at any. -/
def fdats (_ : Fin 1) (c : Dev nD) : Dat τ (Elt F) Unit ℕ (UR sig nD τ) ℕ cfg0 c :=
  dat m c (fun _ _ => Scalar.ofBits .f32 0#32) (fun _ _ => 0#32) (fun _ => Pipeline.ΦA spec0 c)

/-- The windows whose buffers the frame says nothing of: the two results'. -/
def fgt : Fin cfg0.W → Bool := fun | 6 => true | 7 => true | _ => false

/-- The pipeline's body obligation for the frame. -/
theorem frame_obligation (c : Dev nD) : BodyObligationLoose (fdats m 0 c) (defs₀ (F := F)) Variants.none () Set.univ fgt := fun t => by
  rw [bigSep_W0, bigSep_W0]
  simp only [fgt]
  rw [show (fdats m 0 c).Φ t.succ = Pipeline.ΦA spec0 c from rfl, show (fdats m 0 c).Φ t.castSucc = Pipeline.ΦA spec0 c from rfl,
    show (fdats m 0 c).owesAt () t.succ = (fdats m 0 c).owesAt () t.castSucc from rfl]
  unfold Pipeline.ΦA
  rw [scopedRest0_eq]
  iintro ⟨⟨⟨⟨%s9, S9⟩, ⟨%s10, S10⟩, ⟨%s11, S11⟩, ⟨%s12, S12⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [show (fdats m 0 c).before 0 t d0 = _ from before_0 m c _ _ _ t d0, show (fdats m 0 c).before 1 t d1 = _ from before_1 m c _ _ _ t d1,
    show (fdats m 0 c).before 2 t d2 = _ from before_2 m c _ _ _ t d2, show (fdats m 0 c).before 3 t d3 = _ from before_3 m c _ _ _ t d3,
    show (fdats m 0 c).before 4 t d4 = _ from before_4 m c _ _ _ t d4, show (fdats m 0 c).before 5 t d5 = _ from before_5 m c _ _ _ t d5]
  iapply (anyPoint c Set.univ t (iblk m c 0 t) (win0_1.fill (grid0.coords t) d1 (iblk m c 1 t)) (iblk m c 2 t) (iblk m c 3 t)
    (win0_4.fill (grid0.coords t) d4 (iblk m c 4 t)) (win0_5.fill (grid0.coords t) d5 (iblk m c 5 t)) d6 d7 s9 s10 s11 s12 _)
  unfold heldAt held
  simp only [owns_whole_eq]
  isplitl [H0 H1 H2 H3 H4 H5 H6 H7 S9 S10 S11 S12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S9]
    · iexists s9; isplitr; · ipureintro; rfl
      iexact S9
    isplitl [S10]
    · iexists s10; isplitr; · ipureintro; rfl
      iexact S10
    isplitl [S11]
    · iexists s11; isplitr; · ipureintro; rfl
      iexact S11
    · iexists s12; isplitr; · ipureintro; rfl
      iexact S12
  iintro ⟨%Y7, %Y8, %h', %l', %bv', %bi', H0, H1, H2, H3, H4, H5, H6, H7, ⟨%f9, %hf9, S9⟩, ⟨%f10, %hf10, S10⟩, ⟨%f11, %hf11, S11⟩, ⟨%f12, %hf12, S12⟩⟩
  isplitl [S9 S10 S11 S12 Hr]
  · isplitr [Hr]
    · isplitl [S9]; · iexists f9; iexact S9
      isplitl [S10]; · iexists f10; iexact S10
      isplitl [S11]; · iexists f11; iexact S11
      · iexists f12; iexact S12
    · iexact Hr
  isplitl [Ho]; · iexact Ho
  isplitl [H0]; · iexact H0
  isplitl [H1]
  · iexists d1
    change _ ⊢ owns (c : Thread nD τ) (st0_1 t) fullShare (win0_1.fill (grid0.coords t) d1
      (win0_1.cut (grid0.coords t) (win0_1.fill (grid0.coords t) (fun _ => 0#8) (iblk m c 1 t))))
    rw [win0_1.cut_fill]; try iexact H1
  isplitl [H2]; · iexact H2
  isplitl [H3]; · iexact H3
  isplitl [H4]
  · iexists d4
    change _ ⊢ owns (c : Thread nD τ) (st0_4 t) fullShare (win0_4.fill (grid0.coords t) d4
      (win0_4.cut (grid0.coords t) (win0_4.fill (grid0.coords t) (fun _ => Scalar.ofBits .f32 0#32) (iblk m c 4 t))))
    rw [win0_4.cut_fill]; try iexact H4
  isplitl [H5]
  · iexists d5
    change _ ⊢ owns (c : Thread nD τ) (st0_5 t) fullShare (win0_5.fill (grid0.coords t) d5
      (win0_5.cut (grid0.coords t) (win0_5.fill (grid0.coords t) (fun _ => Scalar.ofBits .f32 0#32) (iblk m c 5 t))))
    rw [win0_5.cut_fill]; try iexact H5
  isplitl [H6]
  · iexists Y7; iexact H6
  · iexists Y8; iexact H7

set_option backward.isDefEq.respectTransparency.types false in
/-- The frame: every fair run of the kernel ends, with the arguments as launched and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  Pipeline.θ_run_frame_around_T_forget cfgs (fdats m) 0 launch0 defs₀ Variants.none fgt {main_v0_0} m ρ main
    (hbody := frame_obligation m)
    (hshare := fun c => (fdats m 0 c).share_full fun _ => rfl) (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, _root_.or_false] at hops
      subst hops
      simp only [hostOps1, List.mem_cons, List.mem_nil_iff, _root_.or_false] at hop
      subst hop
      simp only [StableHlo.reshape_writes, Finset.mem_singleton] at hb
      rw [Finset.mem_singleton]
      by_contra hne
      exact StableHlo.devRef_ne_of_ne hne hb)
    (hmain := hmain m Variants.none) (hA := fun _ _ => rfl) (hΦ := fun _ _ => rfl)
    (Q' := _) (hQ' := fun r h => ⟨fun c => ⟨(h.1.arr_in c 0 rfl).trans (V_main_arg0 m c),
      ((h.1 c).2 main_arg1 (by decide)).trans (V_main_arg1 m c),
      (h.1.arr_in c 2 rfl).trans (V_main_arg2 m c),
      ((h.1 c).2 main_arg3 (by decide)).trans (V_main_arg3 m c),
      (h.1.arr_in c 4 rfl).trans (V_main_arg4 m c),
      ((h.1 c).2 main_arg5 (by decide)).trans (V_main_arg5 m c)⟩, h.2⟩)

end Cert.KernelIdeal.Body

end
-- ==== Proof.KernelFrame.lean ====
/-
  The frames of the two kernel programs: the printed kernel and its ideal reading are one text, so the frame proved at any
  float values serves both.
-/
module

public import proofs.«01_k».proof.Defs
public import proofs.«01_k».proof.Proof.Gen.Kernel
public import proofs.«01_k».proof.Proof.FrameRun

@[expose] public section

set_option maxRecDepth 65536

namespace Cert.Proof

open Idealize.ShloMosaic Idealize.SL.Sem

/-- The ideal kernel's frame. -/
theorem kernelIdeal_frame : Cert.quiescent_KernelIdeal (hKernelIdeal := Cert.KernelIdeal.Gen.facts) :=
  fun m g _ => Cert.KernelIdeal.Body.frame_run m g

local instance kernelFacts : Cert.Kernel.Facts := Cert.Kernel.Gen.facts
local instance kernelIdealFacts : Cert.KernelIdeal.Facts := Cert.KernelIdeal.Gen.facts

/-- The two programs' kernel functions are one function. -/
theorem kern_eq : @Cert.Kernel.cc0__kern Bits _ _ = @Cert.KernelIdeal.cc0__kern Bits _ _ := rfl
/-- So are their tables of bodies, -/
theorem defs₀_eq : @Cert.Kernel.defs₀ Bits _ _ = @Cert.KernelIdeal.defs₀ Bits _ _ := by
  unfold Cert.Kernel.defs₀ Cert.KernelIdeal.defs₀
  refine congrArg Defs.onTc ?_
  funext l x
  match l, x with
  | 0, (t, s) =>
    show Cert.Kernel.cc0__kern .. = Cert.KernelIdeal.cc0__kern ..
    rw [kern_eq]; rfl
/-- with the pipelines', -/
theorem defs_eq : @Cert.Kernel.defs Bits _ _ = @Cert.KernelIdeal.defs Bits _ _ := by
  show Pipeline.defs Cert.KernelIdeal.pcfgs (Cert.Kernel.defs₀ (F := Bits)) = _
  rw [defs₀_eq]; rfl
/-- and their `main`s. -/
theorem main_eq : Cert.Kernel.main (F := Bits) = Cert.KernelIdeal.main (F := Bits) := rfl

/-- The printed kernel's frame. -/
theorem kernel_frame : Cert.quiescent_Kernel := fun m g _ => by
  rw [defs_eq, main_eq]
  exact Cert.KernelIdeal.Body.frame_run (F := Bits) m g

end Cert.Proof
-- ==== Proof.RefFrame.lean ====
module
public import proofs.«01_k».proof.Defs
public import proofs.«01_k».proof.Proof.Gen.ReferenceIdeal
public import Idealize.ShloMosaic.Lib.Claim
/-! The reference's frame: it is host operations only, none of which writes an argument, and it has no counter. -/
public section
open Idealize.ShloMosaic Idealize.ShloMosaic.StableHlo
namespace Cert.Proof

local instance referenceFacts : Cert.ReferenceIdeal.Facts := Cert.ReferenceIdeal.Gen.facts

set_option maxHeartbeats 40000000 in
/-- The reference ends with its arguments unchanged. -/
theorem reference_frame : Cert.quiescent_ReferenceIdeal := fun m g _ => by
  refine (θ_run _ _ _).mono (fun r h => ⟨h, sem_eq_zero_of_no_sems (by decide) r.2⟩) ?_
  hlo_run

end Cert.Proof
-- ==== Proof.Words.lean ====
/-
  The random generator's 32-bit words, as plain functions of a counter: the twenty rounds of Threefry-2x32 on the key
  (0, 42), and the word a draw is made of. Both programs are shown to draw these.
-/
module

public import Idealize.ShloMosaic.PureOps.Vector

@[expose] public section

namespace Cert.Draw

/-- `x` rotated left by `r` bits. -/
def rot (r : ℕ) (x : BitVec 32) : BitVec 32 := (x <<< r) ||| (x >>> (32 - r))

/-- One round on a pair of words: the second is added to the first, rotated, and combined with the sum. -/
def mix (r : ℕ) (p : BitVec 32 × BitVec 32) : BitVec 32 × BitVec 32 := (p.1 + p.2, (p.1 + p.2) ^^^ rot r p.2)

/-- The four rounds between two additions of key words. -/
def four (r₁ r₂ r₃ r₄ : ℕ) (p : BitVec 32 × BitVec 32) : BitVec 32 × BitVec 32 :=
  mix r₄ (mix r₃ (mix r₂ (mix r₁ p)))
/-- The four rounds of the even groups. -/
def even (p : BitVec 32 × BitVec 32) : BitVec 32 × BitVec 32 := four 13 15 26 6 p
/-- The four rounds of the odd groups. -/
def odd (p : BitVec 32 × BitVec 32) : BitVec 32 × BitVec 32 := four 17 29 16 24 p

/-- Key words `a` and `b` and the group's number `n` added to a pair. -/
def inject (a b n : BitVec 32) (p : BitVec 32 × BitVec 32) : BitVec 32 × BitVec 32 := (p.1 + a, p.2 + b + n)

/-- The third key word. -/
def key2 : BitVec 32 := 0#32 ^^^ 42#32 ^^^ 466688986#32

/-- The two words of counter `n`, its high half zero. -/
def words (n : BitVec 32) : BitVec 32 × BitVec 32 :=
  inject key2 0#32 5#32 <| even <| inject 42#32 key2 4#32 <| odd <| inject 0#32 42#32 3#32 <| even <| inject key2 0#32 2#32 <| odd <|
    inject 42#32 key2 1#32 <| even (0#32 + 0#32, n + 42#32)

/-- The word a draw is made of. -/
def word (n : BitVec 32) : BitVec 32 := (words n).1 ^^^ (words n).2

/-- The float32 word of the draw: sign and exponent those of 1, the word's upper 23 bits the fraction. -/
def unitWord (n : BitVec 32) : BitVec 32 := (word n >>> 9) ||| 1065353216#32

open Idealize.ShloMosaic

/-- A shift each way by amounts that add to the width, joined, is a rotation, on whichever unit. -/
theorem rot_eq (u : ArithUnit) (x : BitVec 32) (r s : ℕ) (h : r + s = 32) (hr : 0 < r) (hs : 0 < s) :
    IntOp.ori (IntOp.shli u x (BitVec.ofNat 32 r)) (IntOp.shrui u x (BitVec.ofNat 32 s)) = rot r x := by
  have hs' : s = 32 - r := by omega
  have h1 : (BitVec.ofNat 32 r).toNat = r := by rw [BitVec.toNat_ofNat]; exact Nat.mod_eq_of_lt (by omega)
  have h2 : (BitVec.ofNat 32 s).toNat = s := by rw [BitVec.toNat_ofNat]; exact Nat.mod_eq_of_lt (by omega)
  unfold IntOp.ori IntOp.shli IntOp.shrui rot
  rw [if_pos (by omega), if_pos (by omega), BitVec.shiftLeft_eq', BitVec.ushiftRight_eq', h1, h2, hs']

end Cert.Draw
-- ==== Proof.Spec.lean ====
/-
  What both programs compute, over the extended reals: the logits, the draw of a column, and the score a row's choice is
  the greatest of.
-/
module

public import proofs.«01_k».proof.Proof.Words
public import Idealize.ShloMosaic.Lib.Claim
public import Idealize.ShloMosaic.Lib.Pointwise

@[expose] public section

noncomputable section

namespace Cert.Spec

open Idealize.ShloMosaic Cert.Draw

/-- The hidden layer at an entry: the rectified affine image of an observation. -/
def hidden (X W : FVec Ideal ⟨2, ![128, 128]⟩ .f32) (b : FVec Ideal ⟨1, ![128]⟩ .f32) (r q : Fin 128) : EReal :=
  max ((∑ k : Fin 128, X (ix2 r k) * W (ix2 k q)) + b (ix1 q)) 0

/-- The logit of row `r` and column `c`: the second affine layer, or the mask's constant where the column is not
    allowed. -/
def logit (X : FVec Ideal ⟨2, ![128, 128]⟩ .f32) (M : IVec ⟨2, ![128, 100000]⟩ 1) (W₁ : FVec Ideal ⟨2, ![128, 128]⟩ .f32)
    (b₁ : FVec Ideal ⟨1, ![128]⟩ .f32) (W₂ : FVec Ideal ⟨2, ![128, 100000]⟩ .f32) (b₂ : FVec Ideal ⟨1, ![100000]⟩ .f32)
    (r : Fin 128) (c : Fin 100000) : EReal :=
  if M (ix2 r c) = 1#1 then Ideal.ofBits .f32 0xCE6E6B28#32
  else (∑ k : Fin 128, hidden X W₁ b₁ r k * W₂ (ix2 k c)) + b₂ (ix1 c)

/-- The least positive normal number of the draws' format. -/
def tiny : EReal := Ideal.ofBits .f32 0x00800000#32

/-- The uniform number a word draws, in [0, 1). -/
def unit (w : BitVec 32) : EReal := Ideal.ofBits .f32 ((w >>> 9) ||| 0x3F800000#32) - 1

/-- The noise made of a word: minus the logarithm of minus the logarithm of its uniform number, kept positive. -/
def noise (w : BitVec 32) : EReal := -Ideal.log (-Ideal.log (max tiny (unit w + tiny)))

/-- The score of row `r` at column `c`: the logit plus the noise of the draw counted `100000 r + c`. Past the last column
    it is minus infinity. -/
def score (X : FVec Ideal ⟨2, ![128, 128]⟩ .f32) (M : IVec ⟨2, ![128, 100000]⟩ 1) (W₁ : FVec Ideal ⟨2, ![128, 128]⟩ .f32)
    (b₁ : FVec Ideal ⟨1, ![128]⟩ .f32) (W₂ : FVec Ideal ⟨2, ![128, 100000]⟩ .f32) (b₂ : FVec Ideal ⟨1, ![100000]⟩ .f32)
    (r : Fin 128) (c : ℕ) : EReal :=
  if h : c < 100000 then noise (word (BitVec.ofNat 32 (100000 * r.val + c))) + logit X M W₁ b₁ W₂ b₂ r ⟨c, h⟩ else ⊥

end Cert.Spec
-- ==== Proof.KernelTile.lean ====
/-
  One tile of the kernel's logits over the reals: the hidden layer at an entry, a tile's logits at an entry, and where
  those entries are found again, in the logits' staging buffer and in the scratch slot the next point reads.
-/
module

public import proofs.«01_k».proof.Proof.State
public import proofs.«01_k».proof.Proof.Spec
public import proofs.«01_k».proof.Proof.Grid
public import Idealize.ShloMosaic.Lib.Pipeline.ValueKit

@[expose] public section

set_option maxRecDepth 16384

noncomputable section

namespace Cert.KernelIdeal.Body

open Cert.KernelIdeal Cert.KernelIdeal.Gen
open Idealize.ShloMosaic

/-- The logit of an entry of a tile, from the hidden layer `h`, the mask tile `M`, the weight tile `W` and the bias row
    `B`. -/
def tile (h : Vec Ideal S128x128 .f32) (M : Vec Ideal S128x4096 .i8) (W : Vec Ideal S128x4096 .f32)
    (B : Vec Ideal S1x4096 .f32) (r : Fin 128) (q : Fin 4096) : EReal :=
  if M (ix2 r q) = 0#8 then (∑ k : Fin 128, h (ix2 r k) * W (ix2 k q)) + B (ix2 0 q) else Ideal.ofBits .f32 0xCE6E6B28#32

/-- An entry of the first half of a tile's columns. -/
theorem lo_at {α : Type} (X : S128x4096.Idx → α) (r : Fin 128) (q : Fin 2048) :
    lo X (ix2 r q) = X (ix2 r ⟨q.val, by omega⟩) :=
  congrArg X (funext fun a => Fin.ext (by
    match a with
    | 0 => show 0 + 1 * r.val = r.val; omega
    | 1 => show 0 + 1 * q.val = q.val; omega))
/-- An entry of the second half. -/
theorem hi_at {α : Type} (X : S128x4096.Idx → α) (r : Fin 128) (q : Fin 2048) :
    hi X (ix2 r q) = X (ix2 r ⟨2048 + q.val, by omega⟩) :=
  congrArg X (funext fun a => Fin.ext (by
    match a with
    | 0 => show 0 + 1 * r.val = r.val; omega
    | 1 => show 2048 + 1 * q.val = 2048 + q.val; omega))
/-- An entry of the first half of a row, -/
theorem lo1_at {α : Type} (X : S1x4096.Idx → α) (q : Fin 2048) :
    lo1 X (ix2 0 q) = X (ix2 0 ⟨q.val, by omega⟩) :=
  congrArg X (funext fun a => Fin.ext (by
    match a with
    | 0 => rfl
    | 1 => show 0 + 1 * q.val = q.val; omega))
/-- and of the second. -/
theorem hi1_at {α : Type} (X : S1x4096.Idx → α) (q : Fin 2048) :
    hi1 X (ix2 0 q) = X (ix2 0 ⟨2048 + q.val, by omega⟩) :=
  congrArg X (funext fun a => Fin.ext (by
    match a with
    | 0 => rfl
    | 1 => show 2048 + 1 * q.val = 2048 + q.val; omega))

variable (h : Vec Ideal S128x128 .f32) (M : Vec Ideal S128x4096 .i8) (W : Vec Ideal S128x4096 .f32)
    (B : Vec Ideal S1x4096 .f32)

/-- A half tile's logits at an entry, from the half's own mask, weights and bias. -/
theorem half_at (w : Vec Ideal S128x2048 .f32) (b : Vec Ideal S1x2048 .f32) (mk : Vec Ideal S128x2048 .i8)
    (r : Fin 128) (q : Fin 2048) :
    k0_pay11 h w b mk (ix2 r q)
      = if mk (ix2 r q) = 0#8 then (∑ k : Fin 128, h (ix2 r k) * w (ix2 k q)) + b (ix2 0 q)
        else Ideal.ofBits .f32 0xCE6E6B28#32 := by
  pointwise [k0_pay11]
  by_cases e : mk (ix2 r q) = 0#8
  · simp [e, Scalar.select, IntOp.cmpi]
  · rw [if_neg e]
    have e' : (mk (ix2 r q) != 0#8) = true := bne_iff_ne.2 e
    simp [Scalar.select, IntOp.cmpi, e']

/-- The hidden layer at an entry. -/
theorem hidden_at (X W₁ : Vec Ideal S128x128 .f32) (b : Vec Ideal S1x128 .f32) (r q : Fin 128) :
    k0_pay1 X W₁ b (ix2 r q) = max ((∑ k : Fin 128, X (ix2 r k) * W₁ (ix2 k q)) + b (ix2 0 q)) 0 := by
  pointwise [k0_pay1]

/-- Both halves' logits are computed alike. -/
theorem logHi_eq : logHi h M W B = k0_pay11 h (hi W) (hi1 B) (hi M) := rfl
/-- What the second half stores is computed as the first half's. -/
theorem stored_hi : k0_pay5 (k0_pay13 h (hi W) (hi1 B)) (k0_pay14 (hi M)) (k0_pay15 (F := Ideal))
    = k0_pay12 h (hi W) (hi1 B) (hi M) := rfl

/-- What is stored in the scratch is the half's logits. -/
theorem stored_at (w : Vec Ideal S128x2048 .f32) (b : Vec Ideal S1x2048 .f32) (mk : Vec Ideal S128x2048 .i8)
    (r : Fin 128) (q : Fin 2048) : k0_pay12 h w b mk (ix3 0 r q) = k0_pay11 h w b mk (ix2 r q) := by
  pointwise [k0_pay12]

/-- The first half's logits at an entry are the tile's. -/
theorem first_at (r : Fin 128) (q : Fin 2048) :
    k0_pay11 h (lo W) (lo1 B) (lo M) (ix2 r q) = tile h M W B r ⟨q.val, by omega⟩ := by
  rw [half_at, lo_at, lo1_at]
  simp only [lo_at]
  rfl
/-- The second half's likewise, 2048 columns on. -/
theorem second_at (r : Fin 128) (q : Fin 2048) :
    k0_pay11 h (hi W) (hi1 B) (hi M) (ix2 r q) = tile h M W B r ⟨2048 + q.val, by omega⟩ := by
  rw [half_at, hi_at, hi1_at]
  simp only [hi_at]
  rfl

/-- The logits' staging buffer after a point that computes a tile holds the tile's logits. -/
theorem outNew_at (X : Vec Ideal S128x4096 .f32) (r : Fin 128) (q : Fin 4096) :
    outNew X h M W B (ix2 r q) = tile h M W B r q := by
  by_cases hq : q.val < 2048
  · have e : lo (outNew X h M W B) = logLo h M W B := by
      unfold outNew
      rw [lo, VecWindow.window_put_of_disjoint _ _ _ _ _ _ _ 1 (by left; show 0 + 2048 ≤ 2048; omega)]
      exact VecWindow.window_put_same ..
    have := congrFun e (ix2 r ⟨q.val, hq⟩)
    rw [lo_at] at this
    exact this.trans (first_at h M W B r ⟨q.val, hq⟩)
  · have e : hi (outNew X h M W B) = logHi h M W B := VecWindow.window_put_same ..
    have := congrFun e (ix2 r ⟨q.val - 2048, by omega⟩)
    rw [hi_at, logHi_eq, second_at] at this
    have eq : (⟨2048 + (q.val - 2048), by omega⟩ : Fin 4096) = q := Fin.ext (by show 2048 + (q.val - 2048) = q.val; omega)
    simp only [eq] at this
    exact this

/-- A window put at equal offsets is read back. -/
theorem window_put_eq {α : Type} {s : Shape} (x : s.Idx → α) (off off' size : Fin s.rank → ℕ) (e : off' = off)
    (inb : ∀ a, off' a + size a ≤ s.size a) (w : ((a : Fin s.rank) → Fin (size a)) → α) :
    VecWindow.window (VecWindow.put x off size w) off' size inb = w := by
  subst e; exact VecWindow.window_put_same ..

/-- Reading the slot point `i` stored its tile in, as the next point `i'` does. -/
theorem slotLo_at (i i' : grid0.Coords) (h3 : k0_cond3 i' = 1#1) (hi' : (i' 0).val = (i 0).val + 1)
    (l : Vec Ideal S2x128x4096 .f32) (r : Fin 128) (q : Fin 2048) :
    slotLo i' h3 (lscrNew i l h M W B) (ix3 0 r q) = tile h M W B r ⟨q.val, by omega⟩ := by
  have ho : k0_off3 i' = k0_off1 i := by
    rw [off1_eq, off3_eq, hi', show ((i 0).val + 1 + 1) % 2 + 4294967294 * (1 - ((i 0).val + 1)) = (i 0).val % 2 by omega]
  have h2 : k0_off2 i 2 = 2048 := by rw [off2_eq]; rfl
  have h1 : k0_off1 i 2 = 0 := by rw [off1_eq]; rfl
  have e : slotLo i' h3 (lscrNew i l h M W B) = k0_pay12 h (lo W) (lo1 B) (lo M) := by
    unfold slotLo lscrNew
    rw [VecWindow.window_put_of_disjoint _ _ _ _ _ _ _ 2 (by left; rw [h2, ho, h1]; show 0 + 2048 ≤ 2048; omega)]
    exact window_put_eq _ _ _ _ ho _ _
  rw [e, stored_at, first_at]
/-- The same of the second half. -/
theorem slotHi_at (i i' : grid0.Coords) (h3 : k0_cond3 i' = 1#1) (hi' : (i' 0).val = (i 0).val + 1)
    (l : Vec Ideal S2x128x4096 .f32) (r : Fin 128) (q : Fin 2048) :
    slotHi i' h3 (lscrNew i l h M W B) (ix3 0 r q) = tile h M W B r ⟨2048 + q.val, by omega⟩ := by
  have ho : k0_off4 i' = k0_off2 i := by
    rw [off2_eq, off4_eq, hi', show ((i 0).val + 1 + 1) % 2 + 4294967294 * (1 - ((i 0).val + 1)) = (i 0).val % 2 by omega]
  have e : slotHi i' h3 (lscrNew i l h M W B) = k0_pay12 h (hi W) (hi1 B) (hi M) := by
    rw [← stored_hi]
    unfold slotHi lscrNew
    exact window_put_eq _ _ _ _ ho _ _
  rw [e, stored_at, second_at]

end Cert.KernelIdeal.Body

end
-- ==== Proof.KernelBlocks.lean ====
/-
  The blocks the kernel's windows hold at a grid point, over the reals: every staged entry inside its array is the
  argument's entry in the point's column range, and a tile computed from staged blocks holds the specified logits.
-/
module

public import proofs.«01_k».proof.Proof.KernelTile
public import proofs.«01_k».proof.Proof.Data

@[expose] public section

set_option maxRecDepth 16384

noncomputable section

namespace Cert.KernelIdeal.Body

open Cert.KernelIdeal Cert.KernelIdeal.Gen
open Idealize.ShloMosaic Idealize.ShloMosaic.TcCoe
open Idealize.SL.Sem

variable (m : (ℓ : Loc nD τ sig) → Buf (Elt Ideal) ℓ) (c : Dev nD)

/-- The windows' block indices: point `t` works on its own block of columns, the last point on the last block again. -/
theorem index_eq : ∀ t : Fin cfg0.N, win0_1.index t = ![0, min t.val 24] ∧ win0_4.index t = ![0, min t.val 24]
    ∧ win0_5.index t = ![0, min t.val 24] ∧ win0_6.index t = ![0, min t.val 24] ∧ win0_0.index t = ![0, 0]
    ∧ win0_2.index t = ![0, 0] ∧ win0_3.index t = ![0, 0] ∧ win0_7.index t = ![0, 0] :=
  (by decide +kernel : ∀ t : Fin grid0.N, _)

/-- How much of a block lies inside its array. -/
theorem extent_eq : ∀ t : Fin cfg0.N,
    (win0_1.xsize (grid0.coords t) 0 = 128 ∧ win0_1.xsize (grid0.coords t) 1 = min 4096 (100000 - 4096 * min t.val 24))
    ∧ (win0_4.xsize (grid0.coords t) 0 = 128 ∧ win0_4.xsize (grid0.coords t) 1 = min 4096 (100000 - 4096 * min t.val 24))
    ∧ (win0_5.xsize (grid0.coords t) 0 = 1 ∧ win0_5.xsize (grid0.coords t) 1 = min 4096 (100000 - 4096 * min t.val 24))
    ∧ (win0_6.xsize (grid0.coords t) 0 = 128 ∧ win0_6.xsize (grid0.coords t) 1 = min 4096 (100000 - 4096 * min t.val 24)) :=
  (by decide +kernel : ∀ t : Fin grid0.N, _)

/-- The arguments as launched, as the specification takes them: the observations. -/
abbrev obs : FVec Ideal S128x128 .f32 := m ((c : Thread nD τ).loc main_arg0)
/-- The mask: set at the entries that are not allowed. -/
abbrev mask : IVec S128x100000 1 := m ((c : Thread nD τ).loc main_arg1)
/-- The first layer's weights, -/
abbrev wgt1 : FVec Ideal S128x128 .f32 := m ((c : Thread nD τ).loc main_arg2)
/-- and its bias. -/
abbrev bias1 : FVec Ideal S128 .f32 := m ((c : Thread nD τ).loc main_arg3)
/-- The second layer's weights, -/
abbrev wgt2 : FVec Ideal S128x100000 .f32 := m ((c : Thread nD τ).loc main_arg4)
/-- and its bias. -/
abbrev bias2 : FVec Ideal S100000 .f32 := m ((c : Thread nD τ).loc main_arg5)

/-- The array the host widens the mask to before the region. -/
theorem V_mask (r : Fin 128) (k : Fin 100000) :
    (V m c main_call0_v1 : IVec S128x100000 8) (ix2 r k) = (mask m c (ix2 r k)).zeroExtend 8 := by
  unfold V V0
  simp only [List.flatten_cons, List.flatten_nil, List.append_nil]
  after_results
  rfl
/-- A vector of 128 entries read as a row. -/
theorem row1_at (x : FVec Ideal S128 .f32) (h) (k : Fin 128) : shapeCast S1x128 x h (ix2 0 k) = x (ix1 k) := by pointwise
/-- A vector of 100000 entries read as a row. -/
theorem row2_at (x : FVec Ideal S100000 .f32) (h) (k : Fin 100000) : shapeCast S1x100000 x h (ix2 0 k) = x (ix1 k) := by
  pointwise
/-- The first bias, laid out as a row. -/
theorem V_bias1 (k : Fin 128) : (V m c main_call0_v2 : FVec Ideal S1x128 .f32) (ix2 0 k) = bias1 m c (ix1 k) := by
  unfold V V0
  simp only [List.flatten_cons, List.flatten_nil, List.append_nil]
  after_results
  exact row1_at _ _ k
/-- The second bias, laid out as a row. -/
theorem V_bias2 (k : Fin 100000) : (V m c main_call0_v3 : FVec Ideal S1x100000 .f32) (ix2 0 k) = bias2 m c (ix1 k) := by
  unfold V V0
  simp only [List.flatten_cons, List.flatten_nil, List.append_nil]
  after_results
  exact row2_at _ _ k

section
variable (t : Fin cfg0.N)

/-- A staged mask entry inside the array. -/
theorem mask_at (d) (r : Fin 128) (q : Fin 4096) (h : 4096 * min t.val 24 + q.val < 100000) :
    win0_1.fill (grid0.coords t) d (iblk m c 1 t) (ix2 r q) = (mask m c (ix2 r ⟨_, h⟩)).zeroExtend 8 := by
  have hm : win0_1.moved (grid0.coords t) (ix2 r q) = true := (win0_1.moved_iff _ _).2 fun a => by
    obtain ⟨⟨e0, e1⟩, -⟩ := extent_eq t
    match a with
    | 0 => rw [e0]; exact r.isLt
    | 1 => rw [e1]; show q.val < _; omega
  unfold Pipeline.Window.fill
  rw [dif_pos hm, ← V_mask]
  blk_point [iblk, index_eq t]

/-- A staged weight entry inside the array. -/
theorem wgt_at (d) (k : Fin 128) (q : Fin 4096) (h : 4096 * min t.val 24 + q.val < 100000) :
    win0_4.fill (grid0.coords t) d (iblk m c 4 t) (ix2 k q) = wgt2 m c (ix2 k ⟨_, h⟩) := by
  have hm : win0_4.moved (grid0.coords t) (ix2 k q) = true := (win0_4.moved_iff _ _).2 fun a => by
    obtain ⟨-, ⟨e0, e1⟩, -⟩ := extent_eq t
    match a with
    | 0 => rw [e0]; exact k.isLt
    | 1 => rw [e1]; show q.val < _; omega
  unfold Pipeline.Window.fill
  rw [dif_pos hm, wgt2, ← V_main_arg4 m c]
  blk_point [iblk, index_eq t]

/-- A staged bias entry inside the array. -/
theorem bias_at (d) (q : Fin 4096) (h : 4096 * min t.val 24 + q.val < 100000) :
    win0_5.fill (grid0.coords t) d (iblk m c 5 t) (ix2 0 q) = bias2 m c (ix1 ⟨_, h⟩) := by
  have hm : win0_5.moved (grid0.coords t) (ix2 0 q) = true := (win0_5.moved_iff _ _).2 fun a => by
    obtain ⟨-, -, ⟨e0, e1⟩, -⟩ := extent_eq t
    match a with
    | 0 => rw [e0]; exact Nat.one_pos
    | 1 => rw [e1]; show q.val < _; omega
  unfold Pipeline.Window.fill
  rw [dif_pos hm, ← V_bias2]
  blk_point [iblk, index_eq t]

/-- The hidden layer as the first point computes it. -/
def hid (c : Dev nD) (t : Fin cfg0.N) : Vec Ideal S128x128 .f32 := k0_pay1 (iblk m c 0 t) (iblk m c 2 t) (iblk m c 3 t)

/-- It is the specified one. -/
theorem hid_at (r q : Fin 128) : hid m c t (ix2 r q) = Spec.hidden (obs m c) (wgt1 m c) (bias1 m c) r q := by
  have e0 : ∀ k, iblk m c 0 t (ix2 r k) = obs m c (ix2 r k) := fun k => by
    rw [obs, ← V_main_arg0 m c]; blk_point [iblk, index_eq t]
  have e2 : ∀ k, iblk m c 2 t (ix2 k q) = wgt1 m c (ix2 k q) := fun k => by
    rw [wgt1, ← V_main_arg2 m c]; blk_point [iblk, index_eq t]
  have e3 : iblk m c 3 t (ix2 0 q) = bias1 m c (ix1 q) := by
    rw [← V_bias1]; blk_point [iblk, index_eq t]
  unfold hid
  rw [hidden_at]
  simp only [e0, e2, e3]
  rfl

/-- A tile computed from the specified hidden layer and the point's staged blocks holds the specified logits. -/
theorem tile_at (h : Vec Ideal S128x128 .f32)
    (hh : ∀ r q, h (ix2 r q) = Spec.hidden (obs m c) (wgt1 m c) (bias1 m c) r q) (d1 d4 d5) (r : Fin 128) (q : Fin 4096)
    (hq : 4096 * min t.val 24 + q.val < 100000) :
    tile h (win0_1.fill (grid0.coords t) d1 (iblk m c 1 t)) (win0_4.fill (grid0.coords t) d4 (iblk m c 4 t))
        (win0_5.fill (grid0.coords t) d5 (iblk m c 5 t)) r q
      = Spec.logit (obs m c) (mask m c) (wgt1 m c) (bias1 m c) (wgt2 m c) (bias2 m c) r ⟨_, hq⟩ := by
  unfold tile Spec.logit
  rw [mask_at m c t d1 r q hq, bias_at m c t d5 q hq]
  simp only [hh, wgt_at m c t d4 _ q hq]
  rcases (by decide : ∀ b : BitVec 1, b = 0#1 ∨ b = 1#1) (mask m c (ix2 r ⟨_, hq⟩)) with e | e <;> rw [e] <;> rfl

end

end Cert.KernelIdeal.Body

end
-- ==== Proof.KernelWords.lean ====
/-
  The words the kernel draws: its vectors of the generator's rounds, read at an entry, are the plain functions of `Words`.
-/
module

public import proofs.«01_k».proof.Proof.Words
public import proofs.«01_k».proof.Proof.State
public import Idealize.ShloMosaic.Lib.Pointwise

@[expose] public section

set_option maxRecDepth 16384

noncomputable section

namespace Cert.KernelIdeal.Body

open Idealize.ShloMosaic Cert.KernelIdeal Cert.KernelIdeal.Gen Cert.Draw

/-- The third key word as the kernel spells it. -/
theorem key2_eq : key2 = 466689008#32 := by decide

/-- A rotation combined with a word, the operands either way. -/
theorem xori_rot (r : ℕ) (a b : BitVec 32) : IntOp.xori (rot r a) b = b ^^^ rot r a := BitVec.xor_comm _ _

variable (x : S128x2048.Idx)

/-- The counter of an entry of the tile half whose first column is `off`. -/
def counter (off : BitVec 32) (x : S128x2048.Idx) : BitVec 32 :=
  BitVec.ofNat 32 (x 0).val * 100000#32 + BitVec.ofNat 32 (x 1).val + off

/-- The kernel adds the offset and the key word to the counter together. -/
theorem counter_key (off : BitVec 32) (x : S128x2048.Idx) :
    BitVec.ofNat 32 (x 0).val * 100000#32 + BitVec.ofNat 32 (x 1).val + (off + 42#32) = counter off x + 42#32 := by
  unfold counter; rw [BitVec.add_assoc _ off]

/-- The first half's first three rounds; the sum of the fourth is already formed. -/
theorem lo_first (i : grid0.Coords) :
    k0_pay25 (gw i) x = (mix 26 (mix 15 (mix 13 (0#32 + 0#32, counter (offLo i) x + 42#32)))).2
    ∧ k0_pay26 (gw i) x = (mix 26 (mix 15 (mix 13 (0#32 + 0#32, counter (offLo i) x + 42#32)))).1
        + (mix 26 (mix 15 (mix 13 (0#32 + 0#32, counter (offLo i) x + 42#32)))).2 := by
  have e : k0_pay19 (gw i) x = counter (offLo i) x + 42#32 := by
    rw [← counter_key]
    pointwise [k0_pay19, k0_pay16, offLo]
    rfl
  refine ⟨?_, ?_⟩ <;>
    pointwise [k0_pay20, k0_pay21, k0_pay22, k0_pay23, k0_pay24, k0_pay25, k0_pay26] <;>
    simp (disch := decide) only [e, rot_eq, xori_rot, IntOp.addi, even, odd, four, mix, inject, key2_eq]

/-- Rounds four to eight of the first half, from the pair `p` three rounds leave. -/
theorem lo_second (v51 v52 : IVec S128x2048 32) (p : BitVec 32 × BitVec 32) (h1 : v51 x = p.2) (h2 : v52 x = p.1 + p.2) :
    k0_pay36 v51 v52 k0_pay27 x = (inject key2 0#32 2#32 (odd (inject 42#32 key2 1#32 (mix 6 p)))).1
    ∧ k0_pay37 v51 v52 k0_pay27 x = (inject key2 0#32 2#32 (odd (inject 42#32 key2 1#32 (mix 6 p)))).2 := by
  refine ⟨?_, ?_⟩ <;>
    pointwise [k0_pay27, k0_pay28, k0_pay29, k0_pay30, k0_pay31, k0_pay32, k0_pay33, k0_pay34, k0_pay35, k0_pay36,
      k0_pay37] <;>
    simp (disch := decide) only [h1, h2, rot_eq, xori_rot, IntOp.addi, even, odd, four, mix, inject, key2_eq]

/-- Rounds nine to thirteen of the first half; of the fourteenth the sum and one of the two shifts. -/
theorem lo_third (v94 v98 : IVec S128x2048 32) (p : BitVec 32 × BitVec 32) (h1 : v94 x = p.1) (h2 : v98 x = p.2) :
    k0_pay47 v94 v98 x = (mix 17 (inject 0#32 42#32 3#32 (even p))).2
    ∧ k0_pay48 v94 v98 x = (mix 17 (inject 0#32 42#32 3#32 (even p))).1 + (mix 17 (inject 0#32 42#32 3#32 (even p))).2
    ∧ k0_pay49 v94 v98 x = IntOp.shli .vector (mix 17 (inject 0#32 42#32 3#32 (even p))).2 (BitVec.ofNat 32 29) := by
  refine ⟨?_, ?_, ?_⟩ <;>
    pointwise [k0_pay38, k0_pay39, k0_pay40, k0_pay41, k0_pay42, k0_pay43, k0_pay44, k0_pay45, k0_pay46, k0_pay47,
      k0_pay48, k0_pay49] <;>
    simp (disch := decide) only [h1, h2, rot_eq, xori_rot, IntOp.addi, even, odd, four, mix, inject, key2_eq]

/-- Rounds fourteen to nineteen of the first half; the sum of the twentieth is already formed. -/
theorem lo_fourth (v139 v140 v142 : IVec S128x2048 32) (p : BitVec 32 × BitVec 32) (h1 : v139 x = p.2)
    (h2 : v140 x = p.1 + p.2) (h3 : v142 x = IntOp.shli .vector p.2 (BitVec.ofNat 32 29)) :
    k0_pay61 v139 v140 v142 k0_pay50 x
      = (mix 26 (mix 15 (mix 13 (inject 42#32 key2 4#32 (mix 24 (mix 16 (mix 29 p))))))).2
    ∧ k0_pay62 v139 v140 v142 k0_pay50 x
      = (mix 26 (mix 15 (mix 13 (inject 42#32 key2 4#32 (mix 24 (mix 16 (mix 29 p))))))).1
        + (mix 26 (mix 15 (mix 13 (inject 42#32 key2 4#32 (mix 24 (mix 16 (mix 29 p))))))).2 := by
  refine ⟨?_, ?_⟩ <;>
    pointwise [k0_pay50, k0_pay51, k0_pay52, k0_pay53, k0_pay54, k0_pay55, k0_pay56, k0_pay57, k0_pay58, k0_pay59,
      k0_pay60, k0_pay61, k0_pay62] <;>
    simp (disch := decide) only [h1, h2, h3, rot_eq, xori_rot, IntOp.addi, even, odd, four, mix, inject, key2_eq]

/-- The second half's first three rounds; of the fourth the sum and the two shifts. -/
theorem hi_first (i : grid0.Coords) :
    k0_pay77 (gw i) k0_pay16 cols x = (mix 26 (mix 15 (mix 13 (0#32 + 0#32, counter (offHi i) x + 42#32)))).1
        + (mix 26 (mix 15 (mix 13 (0#32 + 0#32, counter (offHi i) x + 42#32)))).2
    ∧ k0_pay78 (gw i) k0_pay16 cols x
        = IntOp.shli .vector (mix 26 (mix 15 (mix 13 (0#32 + 0#32, counter (offHi i) x + 42#32)))).2 (BitVec.ofNat 32 6)
    ∧ k0_pay79 (gw i) k0_pay16 cols x
        = IntOp.shrui .vector (mix 26 (mix 15 (mix 13 (0#32 + 0#32, counter (offHi i) x + 42#32)))).2
          (BitVec.ofNat 32 26) := by
  have e : k0_pay70 (gw i) k0_pay16 cols x = counter (offHi i) x + 42#32 := by
    rw [← counter_key]
    pointwise [k0_pay70, k0_pay16, cols, offHi]
    rfl
  refine ⟨?_, ?_, ?_⟩ <;>
    pointwise [k0_pay71, k0_pay72, k0_pay73, k0_pay74, k0_pay75, k0_pay76, k0_pay77, k0_pay78, k0_pay79] <;>
    simp (disch := decide) only [e, rot_eq, xori_rot, IntOp.addi, even, odd, four, mix, inject, key2_eq]

/-- Rounds four to eight of the second half; of the ninth the sum and one of the two shifts. -/
theorem hi_second (v273 v275 v277 : IVec S128x2048 32) (p : BitVec 32 × BitVec 32) (h1 : v273 x = p.1 + p.2)
    (h2 : v275 x = IntOp.shli .vector p.2 (BitVec.ofNat 32 6)) (h3 : v277 x = IntOp.shrui .vector p.2 (BitVec.ofNat 32 26)) :
    k0_pay88 v273 v275 v277 x = (inject key2 0#32 2#32 (odd (inject 42#32 key2 1#32 (mix 6 p)))).2
    ∧ k0_pay89 v273 v275 v277 x = (inject key2 0#32 2#32 (odd (inject 42#32 key2 1#32 (mix 6 p)))).1
        + (inject key2 0#32 2#32 (odd (inject 42#32 key2 1#32 (mix 6 p)))).2
    ∧ k0_pay90 v273 v275 v277 x
        = IntOp.shli .vector (inject key2 0#32 2#32 (odd (inject 42#32 key2 1#32 (mix 6 p)))).2 (BitVec.ofNat 32 13) := by
  refine ⟨?_, ?_, ?_⟩ <;>
    pointwise [k0_pay80, k0_pay81, k0_pay82, k0_pay83, k0_pay84, k0_pay85, k0_pay86, k0_pay87, k0_pay88, k0_pay89,
      k0_pay90] <;>
    simp (disch := decide) only [h1, h2, h3, rot_eq, xori_rot, IntOp.addi, even, odd, four, mix, inject, key2_eq]

/-- Rounds nine to fourteen of the second half; the sum of the fifteenth is already formed. -/
theorem hi_third (v319 v320 v322 : IVec S128x2048 32) (p : BitVec 32 × BitVec 32) (h1 : v319 x = p.2)
    (h2 : v320 x = p.1 + p.2) (h3 : v322 x = IntOp.shli .vector p.2 (BitVec.ofNat 32 13)) :
    k0_pay101 v319 v320 v322 x = (mix 29 (mix 17 (inject 0#32 42#32 3#32 (even p)))).2
    ∧ k0_pay102 v319 v320 v322 x = (mix 29 (mix 17 (inject 0#32 42#32 3#32 (even p)))).1
        + (mix 29 (mix 17 (inject 0#32 42#32 3#32 (even p)))).2 := by
  refine ⟨?_, ?_⟩ <;>
    pointwise [k0_pay91, k0_pay92, k0_pay93, k0_pay94, k0_pay95, k0_pay96, k0_pay97, k0_pay98, k0_pay99, k0_pay100,
      k0_pay101, k0_pay102] <;>
    simp (disch := decide) only [h1, h2, h3, rot_eq, xori_rot, IntOp.addi, even, odd, four, mix, inject, key2_eq]

/-- Rounds fifteen to nineteen of the second half; of the twentieth the sum and the two shifts. -/
theorem hi_fourth (v367 v368 : IVec S128x2048 32) (p : BitVec 32 × BitVec 32) (h1 : v367 x = p.2)
    (h2 : v368 x = p.1 + p.2) :
    k0_pay112 v367 v368 x
      = (mix 26 (mix 15 (mix 13 (inject 42#32 key2 4#32 (mix 24 (mix 16 p)))))).1
        + (mix 26 (mix 15 (mix 13 (inject 42#32 key2 4#32 (mix 24 (mix 16 p)))))).2
    ∧ k0_pay113 v367 v368 x
      = IntOp.shli .vector (mix 26 (mix 15 (mix 13 (inject 42#32 key2 4#32 (mix 24 (mix 16 p)))))).2 (BitVec.ofNat 32 6)
    ∧ k0_pay114 v367 v368 x
      = IntOp.shrui .vector (mix 26 (mix 15 (mix 13 (inject 42#32 key2 4#32 (mix 24 (mix 16 p)))))).2
        (BitVec.ofNat 32 26) := by
  refine ⟨?_, ?_, ?_⟩ <;>
    pointwise [k0_pay103, k0_pay104, k0_pay105, k0_pay106, k0_pay107, k0_pay108, k0_pay109, k0_pay110, k0_pay111,
      k0_pay112, k0_pay113, k0_pay114] <;>
    simp (disch := decide) only [h1, h2, rot_eq, xori_rot, IntOp.addi, even, odd, four, mix, inject, key2_eq]

/-- The pair nineteen rounds leave of counter `n`. -/
def late (n : BitVec 32) : BitVec 32 × BitVec 32 :=
  mix 26 <| mix 15 <| mix 13 <| inject 42#32 key2 4#32 <| odd <| inject 0#32 42#32 3#32 <| even <|
    inject key2 0#32 2#32 <| odd <| inject 42#32 key2 1#32 <| even (0#32 + 0#32, n + 42#32)

/-- The last round and addition of key words after them. -/
theorem late_words (n : BitVec 32) : inject key2 0#32 5#32 (mix 6 (late n)) = words n := rfl

/-- What the first half's vectors hold before the last round. -/
theorem wordsLo_at (i : grid0.Coords) :
    (wordsLo i).1 x = (late (counter (offLo i) x)).2
    ∧ (wordsLo i).2.1 x = (late (counter (offLo i) x)).1 + (late (counter (offLo i) x)).2
    ∧ (wordsLo i).2.2 = k0_pay63 := by
  obtain ⟨a1, a2⟩ := lo_first x i
  obtain ⟨b1, b2⟩ := lo_second x _ _ _ a1 a2
  obtain ⟨c1, c2, c3⟩ := lo_third x _ _ _ b1 b2
  obtain ⟨d1, d2⟩ := lo_fourth x _ _ _ _ c1 c2 c3
  exact ⟨d1, d2, rfl⟩

/-- What the second half's vectors hold before the last round. -/
theorem wordsHi_at (i : grid0.Coords) :
    (wordsHi i).1 x = (late (counter (offHi i) x)).1 + (late (counter (offHi i) x)).2
    ∧ (wordsHi i).2.1 x = IntOp.shli .vector (late (counter (offHi i) x)).2 (BitVec.ofNat 32 6)
    ∧ (wordsHi i).2.2 x = IntOp.shrui .vector (late (counter (offHi i) x)).2 (BitVec.ofNat 32 26) := by
  obtain ⟨a1, a2, a3⟩ := hi_first x i
  obtain ⟨b1, b2, b3⟩ := hi_second x _ _ _ _ a1 a2 a3
  obtain ⟨c1, c2⟩ := hi_third x _ _ _ _ b1 b2 b3
  obtain ⟨d1, d2, d3⟩ := hi_fourth x _ _ _ c1 c2
  exact ⟨d1, d2, d3⟩

end Cert.KernelIdeal.Body

end
-- ==== Proof.Best.lean ====
/-
  The greatest score over a set of columns and the first column that reaches it: how one column, or the best of a block
  of columns, is merged in, and that the outcome is unique.
-/
module

public import Idealize.ShloMosaic.Lib.Claim
public import Idealize.ShloMosaic.PureOps.Reduce
public import Idealize.ShloMosaic.PureOps.Ideal.Laws

@[expose] public section

noncomputable section

namespace Cert.Best

open Idealize.ShloMosaic

/-- `v` is the greatest score over the columns `P` (minus infinity over none) and, where it is above minus infinity, `b`
    is the first column that has it; at minus infinity `b` is zero. -/
def Best (s : ℕ → EReal) (P : ℕ → Prop) (v : EReal) (b : BitVec 32) : Prop :=
  (∀ c, P c → s c ≤ v)
  ∧ ((v = ⊥ ∧ b = 0#32) ∨ (⊥ < v ∧ ∃ c, P c ∧ s c = v ∧ b = BitVec.ofNat 32 c ∧ ∀ c', P c' → s c' = v → c ≤ c'))

/-- The same without a word said of `b` where the greatest score is minus infinity. -/
def Block (s : ℕ → EReal) (P : ℕ → Prop) (v : EReal) (b : BitVec 32) : Prop :=
  (∀ c, P c → s c ≤ v)
  ∧ (⊥ < v → ∃ c, P c ∧ s c = v ∧ b = BitVec.ofNat 32 c ∧ ∀ c', P c' → s c' = v → c ≤ c')

/-- A best is such a block. -/
theorem Best.block {s : ℕ → EReal} {P : ℕ → Prop} {v : EReal} {b : BitVec 32} (h : Best s P v b) : Block s P v b := by
  refine ⟨h.1, fun hv => ?_⟩
  rcases h.2 with ⟨e, _⟩ | ⟨_, h⟩
  · exact absurd hv (by rw [e]; exact lt_irrefl _)
  · exact h

/-- Over no columns the best is minus infinity at zero. -/
theorem best_none (s : ℕ → EReal) : Best s (fun _ => False) ⊥ 0#32 := ⟨fun _ h => h.elim, .inl ⟨rfl, rfl⟩⟩

/-- The same best over a set with the same members. -/
theorem Best.congr {s : ℕ → EReal} {P Q : ℕ → Prop} {v : EReal} {b : BitVec 32} (h : Best s P v b)
    (hPQ : ∀ c, P c ↔ Q c) : Best s Q v b := by
  have e : P = Q := funext fun c => propext (hPQ c)
  exact e ▸ h

/-- The chosen column is determined. -/
theorem Best.unique {s : ℕ → EReal} {P : ℕ → Prop} {v v' : EReal} {b b' : BitVec 32} (h : Best s P v b)
    (h' : Best s P v' b') : b = b' := by
  rcases h with ⟨le, ⟨rfl, rfl⟩ | ⟨hv, c, pc, rfl, rfl, mc⟩⟩ <;>
    rcases h' with ⟨le', ⟨rfl, rfl⟩ | ⟨hv', c', pc', rfl, rfl, mc'⟩⟩
  · rfl
  · exact absurd (le _ pc') (not_le.mpr hv')
  · exact absurd (le' _ pc) (not_le.mpr hv)
  · have e : s c = s c' := le_antisymm (le' _ pc) (le _ pc')
    rw [Nat.le_antisymm (mc c' pc' e.symm) (mc' c pc e)]

/-- Columns whose score is minus infinity may be left out. -/
theorem Best.shrink {s : ℕ → EReal} {P Q : ℕ → Prop} {v : EReal} {b : BitVec 32} (h : Best s P v b)
    (hQ : ∀ c, Q c → P c) (hb : ∀ c, P c → ¬ Q c → s c = ⊥) : Best s Q v b := by
  refine ⟨fun c q => h.1 c (hQ c q), h.2.imp id ?_⟩
  rintro ⟨hv, c, pc, e, eb, mc⟩
  refine ⟨hv, c, ?_, e, eb, fun c' q => mc c' (hQ c' q)⟩
  by_contra hn
  exact absurd hv (by rw [← e, hb c pc hn]; exact lt_irrefl _)

/-- Merging the best of a later block by a strict comparison. -/
theorem Best.merge {s : ℕ → EReal} {P Q : ℕ → Prop} {v m : EReal} {b a : BitVec 32} (h : Best s P v b)
    (k : Block s Q m a) (hlt : ∀ c d, P c → Q d → c < d) :
    Best s (fun c => P c ∨ Q c) (if v < m then m else v) (if v < m then a else b) := by
  by_cases hm : v < m
  · rw [if_pos hm, if_pos hm]
    obtain ⟨c, qc, e, ea, mc⟩ := k.2 (bot_le.trans_lt hm)
    refine ⟨?_, .inr ⟨bot_le.trans_lt hm, c, .inr qc, e, ea, ?_⟩⟩
    · rintro d (pd | qd)
      · exact (h.1 d pd).trans hm.le
      · exact k.1 d qd
    · rintro d (pd | qd) ed
      · exact absurd (h.1 d pd) (not_le.mpr (by rw [ed]; exact hm))
      · exact mc d qd ed
  · rw [if_neg hm, if_neg hm]
    have hm' := not_lt.mp hm
    refine ⟨?_, h.2.imp id ?_⟩
    · rintro d (pd | qd)
      · exact h.1 d pd
      · exact (k.1 d qd).trans hm'
    · rintro ⟨hv, c, pc, e, eb, mc⟩
      refine ⟨hv, c, .inl pc, e, eb, ?_⟩
      rintro d (pd | qd) ed
      · exact mc d pd ed
      · exact (hlt c d pc qd).le

/-- Folding one column in, as the arg-max's own body does: the greater score, on equal scores the smaller column. -/
theorem Best.step {s : ℕ → EReal} {P : ℕ → Prop} {v : EReal} {b : BitVec 32} (h : Best s P v b) (c : ℕ)
    (hc : c < 2 ^ 31) (hP : ∀ c, P c → c < 2 ^ 31) :
    Best s (fun c' => P c' ∨ c' = c) (if s c < v then v else s c)
      (if s c < v ∨ (v = s c ∧ b.toInt < (BitVec.ofNat 32 c).toInt) then b else BitVec.ofNat 32 c) := by
  have hi : ∀ n : ℕ, n < 2 ^ 31 → (BitVec.ofNat 32 n).toInt = n := fun n hn => by
    rw [BitVec.toInt_eq_toNat_cond, BitVec.toNat_ofNat]; omega
  by_cases hm : s c < v
  · rw [if_pos hm, if_pos (.inl hm)]
    refine ⟨?_, h.2.imp id ?_⟩
    · rintro d (pd | rfl)
      · exact h.1 d pd
      · exact hm.le
    · rintro ⟨hv, d, pd, e, eb, md⟩
      refine ⟨hv, d, .inl pd, e, eb, ?_⟩
      rintro d' (pd' | rfl) ed
      · exact md d' pd' ed
      · exact absurd hm (by rw [ed]; exact lt_irrefl _)
  · rw [if_neg hm]
    have hm' := not_lt.mp hm
    have hle : ∀ d, P d ∨ d = c → s d ≤ s c := by
      rintro d (pd | rfl)
      · exact (h.1 d pd).trans hm'
      · exact le_rfl
    rcases hm'.lt_or_eq with hlt | heq
    · rw [if_neg (by rintro (h' | ⟨h', -⟩); exacts [hm h', hlt.ne h'])]
      refine ⟨hle, .inr ⟨bot_le.trans_lt hlt, c, .inr rfl, rfl, rfl, ?_⟩⟩
      rintro d (pd | rfl) ed
      · exact absurd (h.1 d pd) (not_le.mpr (by rw [ed]; exact hlt))
      · exact le_rfl
    · subst heq
      refine ⟨hle, ?_⟩
      rcases h.2 with ⟨hv, rfl⟩ | ⟨hv, d, pd, e, rfl, md⟩
      · refine .inl ⟨hv, ?_⟩
        split
        · rfl
        · next hn =>
          have : c = 0 := by
            by_contra h0
            exact hn (.inr ⟨rfl, by rw [hi c hc]; show (0 : ℤ) < c; omega⟩)
          rw [this]
      · refine .inr ⟨hv, ?_⟩
        have hd := hP d pd
        rw [hi c hc, hi d hd]
        by_cases hdc : d < c
        · rw [if_pos (.inr ⟨rfl, by exact_mod_cast hdc⟩)]
          refine ⟨d, .inl pd, e, rfl, ?_⟩
          rintro d' (pd' | rfl) ed
          · exact md d' pd' ed
          · exact hdc.le
        · rw [if_neg (by rintro (h' | ⟨-, h'⟩); exacts [hm h', hdc (by exact_mod_cast h')])]
          refine ⟨c, .inr rfl, rfl, rfl, ?_⟩
          rintro d' (pd' | rfl) ed
          · exact (not_lt.mp hdc).trans (md d' pd' ed)
          · exact le_rfl

/-- The signed minimum of words read as integers. -/
theorem minsi_toInt (a b : BitVec 32) : (IntOp.minsi a b).toInt = min a.toInt b.toInt := by
  unfold IntOp.minsi
  rw [BitVec.slt]
  by_cases h : a.toInt < b.toInt
  · rw [if_pos (by simpa using h), min_eq_left h.le]
  · rw [if_neg (by simpa using h), min_eq_right (not_lt.mp h)]

/-- A block of 2048 columns from `off`: its maximum by a fold, and the least column of those that equal it. -/
theorem block_of_folds (s : ℕ → EReal) (off : ℕ) (S : Fin 2048 → EReal) (hS : ∀ q, S q = s (off + q.val)) (m : EReal)
    (hm : m = Finset.univ.fold max ⊥ S) (a : BitVec 32)
    (ha : a = Finset.univ.fold IntOp.minsi 2147483647#32
      (fun q : Fin 2048 => if S q = m then BitVec.ofNat 32 q.val else 100000#32)) :
    Block s (fun c => off ≤ c ∧ c < off + 2048) m (a + BitVec.ofNat 32 off) := by
  have hle : ∀ q, S q ≤ m := fun q => by
    rw [hm]; exact (Finset.le_fold_max _).mpr (.inr ⟨q, Finset.mem_univ q, le_rfl⟩)
  refine ⟨?_, fun hv => ?_⟩
  · rintro c ⟨h1, h2⟩
    have := hle ⟨c - off, by omega⟩
    rw [hS] at this
    simpa [Nat.add_sub_cancel' h1] using this
  · have hex : ∃ q, S q = m := by
      have h := (Finset.le_fold_max (s := Finset.univ) (f := S) (b := ⊥) m).mp (by rw [← hm])
      rcases h with h | ⟨q, _, h⟩
      · exact absurd hv (not_lt.mpr h)
      · exact ⟨q, le_antisymm (hle q) h⟩
    have hne : (Finset.univ.filter fun q => S q = m).Nonempty := by
      obtain ⟨q, hq⟩ := hex; exact ⟨q, by simpa using hq⟩
    obtain ⟨q, hq, hmin⟩ := Finset.exists_min_image _ (fun q : Fin 2048 => q.val) hne
    have hqm : S q = m := by simpa using hq
    have hi : ∀ n : ℕ, n < 2 ^ 31 → (BitVec.ofNat 32 n).toInt = n := fun n hn => by
      rw [BitVec.toInt_eq_toNat_cond, BitVec.toNat_ofNat]; omega
    have hfold := Finset.fold_hom (op := IntOp.minsi (w := 32)) (op' := min) (s := Finset.univ) (b := 2147483647#32)
      (f := fun q : Fin 2048 => if S q = m then BitVec.ofNat 32 q.val else 100000#32) (m := BitVec.toInt) minsi_toInt
    rw [← ha] at hfold
    have hai : a.toInt = q.val := by
      rw [← hfold]
      apply le_antisymm
      · refine (Finset.fold_min_le _).mpr (.inr ⟨q, Finset.mem_univ q, ?_⟩)
        rw [if_pos hqm, hi _ (by omega)]
      · refine (Finset.le_fold_min _).mpr ⟨?_, fun q' _ => ?_⟩
        · rw [show (2147483647#32).toInt = 2147483647 from rfl]; omega
        · by_cases e : S q' = m
          · rw [if_pos e, hi _ (by omega)]; exact_mod_cast hmin q' (by simpa using e)
          · rw [if_neg e, show (100000#32).toInt = 100000 from rfl]; omega
    have haq : a = BitVec.ofNat 32 q.val := BitVec.eq_of_toInt_eq (by rw [hai, hi _ (by omega)])
    refine ⟨off + q.val, ⟨by omega, by omega⟩, by rw [← hS, hqm], ?_, ?_⟩
    · rw [haq, ← BitVec.ofNat_add, Nat.add_comm]
    · rintro c ⟨h1, h2⟩ ec
      have := hmin ⟨c - off, by omega⟩ (by
        simp only [Finset.mem_filter, Finset.mem_univ, true_and]
        rw [hS, ← ec]; simp [Nat.add_sub_cancel' h1])
      simp only at this
      omega

end Cert.Best

end
-- ==== Proof.KernelScore.lean ====
/-
  One scoring point of the kernel over the extended reals: the scores of a half tile, its maximum and first column, and
  the merge into the running best.
-/
module

public import proofs.«01_k».proof.Proof.KernelWords
public import proofs.«01_k».proof.Proof.Spec
public import proofs.«01_k».proof.Proof.Best

@[expose] public section

set_option maxRecDepth 16384

noncomputable section

namespace Cert.KernelIdeal.Body

open Idealize.ShloMosaic Cert.KernelIdeal Cert.KernelIdeal.Gen Cert.Draw

/-- The word of minus infinity. -/
theorem ofBits_bot : Ideal.ofBits .f32 0xFF800000#32 = ⊥ := by simp [Ideal.ofBits, Ideal.ieee]

/-- The score of an entry of a half tile whose first column is `o`, its logit `l`. -/
def entry (o : ℕ) (l : EReal) (r : Fin 128) (q : Fin 2048) : EReal :=
  if o + q.val < 100000 then l + Spec.noise (word (BitVec.ofNat 32 (100000 * r.val + (o + q.val)))) else ⊥

/-- The counter of an entry. -/
theorem counter_eq (o : ℕ) (r : Fin 128) (q : Fin 2048) :
    counter (BitVec.ofNat 32 o) (ix2 r q) = BitVec.ofNat 32 (100000 * r.val + (o + q.val)) := by
  show BitVec.ofNat 32 r.val * 100000#32 + BitVec.ofNat 32 q.val + BitVec.ofNat 32 o = _
  apply BitVec.eq_of_toNat_eq
  simp only [BitVec.toNat_add, BitVec.toNat_mul, BitVec.toNat_ofNat]
  omega

/-- The printed bound on the column is the bound on the natural number. -/
theorem bound_eq (o : ℕ) (ho : o < 200000) (q : Fin 2048) :
    IntOp.cmpi .slt (BitVec.ofNat 32 q.val + BitVec.ofNat 32 o) 100000#32 = BitVec.ofBool (decide (o + q.val < 100000)) := by
  have e : (BitVec.ofNat 32 q.val + BitVec.ofNat 32 o).toInt = (o + q.val : ℕ) := by
    rw [← BitVec.ofNat_add, BitVec.toInt_eq_toNat_cond, BitVec.toNat_ofNat]; omega
  unfold IntOp.cmpi
  simp only [BitVec.slt, e]
  rw [show (100000#32).toInt = 100000 from rfl]
  norm_cast

section
variable {F : FTy → Type} [FloatOps F]

/-- The score the kernel makes of a word and a logit, in its own operations. -/
def drawn (w : BitVec 32) (l : F .f32) : F .f32 :=
  FloatOps.addf l (FloatOps.subf (FloatOps.ofBits .f32 0#32) (FloatOps.log (FloatOps.subf (FloatOps.ofBits .f32 0#32)
    (FloatOps.log (FloatOps.maximumf (FloatOps.ofBits .f32 8388608#32) (FloatOps.addf (FloatOps.subf
      (FloatOps.ofBits .f32 (IntOp.ori (IntOp.shrui .vector w 9#32) 1065353216#32)) (FloatOps.ofBits .f32 1065353216#32))
      (FloatOps.ofBits .f32 8388608#32)))))))

/-- An entry's score from the vectors the last round combines, the pair `p` of the nineteenth round. -/
theorem score_first (off : BitVec 32) (v187 v188 : IVec S128x2048 32) (L : Vec F S1x128x2048 .f32)
    (r : Fin 128) (q : Fin 2048) (p : BitVec 32 × BitVec 32) (h1 : v187 (ix2 r q) = p.2) (h2 : v188 (ix2 r q) = p.1 + p.2) :
    k0_pay64 cols off v187 v188 k0_pay63 L (ix2 r q)
      = Scalar.select (IntOp.cmpi .slt (BitVec.ofNat 32 q.val + off) 100000#32)
          (drawn ((inject key2 0#32 5#32 (mix 6 p)).1 ^^^ (inject key2 0#32 5#32 (mix 6 p)).2) (L (ix3 0 r q)))
          (FloatOps.ofBits .f32 0xFF800000#32) := by
  pointwise [k0_pay64, k0_pay63, cols]
  simp (disch := decide) only [h1, h2, rot_eq, xori_rot, IntOp.addi]
  simp only [mix, inject, key2_eq, IntOp.xori, drawn]

/-- The same of the second half's vectors. -/
theorem score_second (off : BitVec 32) (v409 v411 v413 : IVec S128x2048 32) (L : Vec F S1x128x2048 .f32)
    (r : Fin 128) (q : Fin 2048) (p : BitVec 32 × BitVec 32) (h1 : v409 (ix2 r q) = p.1 + p.2)
    (h2 : v411 (ix2 r q) = IntOp.shli .vector p.2 (BitVec.ofNat 32 6))
    (h3 : v413 (ix2 r q) = IntOp.shrui .vector p.2 (BitVec.ofNat 32 26)) :
    k0_pay115 cols off v409 v411 v413 L (ix2 r q)
      = Scalar.select (IntOp.cmpi .slt (BitVec.ofNat 32 q.val + off) 100000#32)
          (drawn ((inject key2 0#32 5#32 (mix 6 p)).1 ^^^ (inject key2 0#32 5#32 (mix 6 p)).2) (L (ix3 0 r q)))
          (FloatOps.ofBits .f32 0xFF800000#32) := by
  pointwise [k0_pay115, cols]
  simp (disch := decide) only [h1, h2, h3, rot_eq, xori_rot, IntOp.addi]
  simp only [mix, inject, key2_eq, IntOp.xori, drawn]
end

/-- The kernel's score over the extended reals. -/
theorem drawn_eq (w : BitVec 32) (l : EReal) : drawn (F := Ideal) w l = l + Spec.noise w := by
  have h1 : Ideal.ofBits .f32 1065353216#32 = 1 := Ideal.ofBits_one_f32
  have h0 : Ideal.ofBits .f32 0#32 = 0 := Ideal.ofBits_zero_f32
  have hw : IntOp.ori (IntOp.shrui .vector w 9#32) 1065353216#32 = (w >>> 9) ||| 0x3F800000#32 := by
    simp [IntOp.ori, IntOp.shrui]
  unfold drawn Spec.noise
  rw [hw]
  change l + (Ideal.ofBits .f32 0#32 - Ideal.log (Ideal.ofBits .f32 0#32 - Ideal.log (max (Ideal.ofBits .f32 8388608#32)
    (Ideal.ofBits .f32 ((w >>> 9) ||| 0x3F800000#32) - Ideal.ofBits .f32 1065353216#32
      + Ideal.ofBits .f32 8388608#32)))) = _
  rw [h1, h0, zero_sub, zero_sub]
  rfl

/-- A select on the column's bound, the score inside and minus infinity outside. -/
theorem entry_eq (o : ℕ) (ho : o < 200000) (l : EReal) (r : Fin 128) (q : Fin 2048) :
    Scalar.select (IntOp.cmpi .slt (BitVec.ofNat 32 q.val + BitVec.ofNat 32 o) 100000#32)
      (drawn (F := Ideal) (word (BitVec.ofNat 32 (100000 * r.val + (o + q.val)))) l)
      (FloatOps.ofBits (F := Ideal) .f32 0xFF800000#32) = entry o l r q := by
  rw [bound_eq o ho, drawn_eq, show FloatOps.ofBits (F := Ideal) .f32 0xFF800000#32 = (⊥ : EReal) from ofBits_bot]
  unfold Scalar.select entry
  by_cases h : o + q.val < 100000 <;> simp [h]

/-- The scores of the first half. -/
theorem scoreLo (i : grid0.Coords) (o : ℕ) (ho : o < 200000) (hi : offLo i = BitVec.ofNat 32 o)
    (L : Vec Ideal S1x128x2048 .f32) (r : Fin 128) (q : Fin 2048) :
    k0_pay64 (F := Ideal) cols (offLo i) (wordsLo i).1 (wordsLo i).2.1 (wordsLo i).2.2 L (ix2 r q)
      = entry o (L (ix3 0 r q)) r q := by
  obtain ⟨h1, h2, h3⟩ := wordsLo_at (ix2 r q) i
  rw [h3]
  rw [hi, counter_eq] at h1 h2
  rw [score_first _ _ _ L r q _ h1 h2, hi, late_words]
  exact entry_eq o ho _ r q

/-- The scores of the second half. -/
theorem scoreHi (i : grid0.Coords) (o : ℕ) (ho : o < 200000) (hi : offHi i = BitVec.ofNat 32 o)
    (L : Vec Ideal S1x128x2048 .f32) (r : Fin 128) (q : Fin 2048) :
    k0_pay115 (F := Ideal) cols (offHi i) (wordsHi i).1 (wordsHi i).2.1 (wordsHi i).2.2 L (ix2 r q)
      = entry o (L (ix3 0 r q)) r q := by
  obtain ⟨h1, h2, h3⟩ := wordsHi_at (ix2 r q) i
  rw [hi, counter_eq] at h1 h2 h3
  rw [score_second _ _ _ _ L r q _ h1 h2 h3, hi, late_words]
  exact entry_eq o ho _ r q

/-- The column numbers, read. -/
theorem cols_at (r : Fin 128) (q : Fin 2048) : cols (ix2 r q) = BitVec.ofNat 32 q.val := by
  pointwise [cols]

/-- The first half's maximum and first column, as the best of a block of columns. -/
theorem blockLo (i : grid0.Coords) (o : ℕ) (ho : o < 200000) (hi : offLo i = BitVec.ofNat 32 o)
    (L : Vec Ideal S1x128x2048 .f32) (r : Fin 128) (s : ℕ → EReal)
    (hs : ∀ q : Fin 2048, entry o (L (ix3 0 r q)) r q = s (o + q.val)) :
    Best.Best s (fun c => o ≤ c ∧ c < o + 2048) (bestLo (F := Ideal) i L (ix2 r 0)) (argLo (F := Ideal) i L (ix2 r 0)) := by
  have hm : maxLo (F := Ideal) i L (ix2 r 0) = Finset.univ.fold max ⊥ (fun q => entry o (L (ix3 0 r q)) r q) := by
    pointwise [maxLo, k0_pay65]
    rw [ofBits_bot]
    simp only [scoreLo i o ho hi]
  have ha : argLo (F := Ideal) i L (ix2 r 0) = if ⊥ < maxLo (F := Ideal) i L (ix2 r 0) then
      Finset.univ.fold IntOp.minsi 2147483647#32 (fun q : Fin 2048 =>
        if entry o (L (ix3 0 r q)) r q = maxLo (F := Ideal) i L (ix2 r 0) then BitVec.ofNat 32 q.val else 100000#32)
      + BitVec.ofNat 32 o else 0#32 := by
    pointwise [argLo, k0_pay69, eqLo, k0_pay66, k0_pay67, k0_pay17, k0_pay18]
    simp only [scoreLo i o ho hi, cols_at, ofBits_bot, IntOp.addi]
    rw [show k0_pay65 (F := Ideal) cols (offLo i) (wordsLo i).1 (wordsLo i).2.1 (wordsLo i).2.2 L = maxLo i L from rfl, hi]
  have hb : bestLo (F := Ideal) i L (ix2 r 0)
      = if ⊥ < maxLo (F := Ideal) i L (ix2 r 0) then maxLo (F := Ideal) i L (ix2 r 0) else ⊥ := by
    pointwise [bestLo, k0_pay68, k0_pay67, k0_pay17]
    rw [ofBits_bot]
  rw [ha, hb]
  refine ((Best.best_none s).merge (Best.block_of_folds s o _ hs _ hm _ rfl) (fun _ _ h => h.elim)).congr fun c => ?_
  simp

/-- The second half's maximum and first column. -/
theorem blockHi (i : grid0.Coords) (o : ℕ) (ho : o < 200000) (hi : offHi i = BitVec.ofNat 32 o)
    (L : Vec Ideal S1x128x2048 .f32) (r : Fin 128) (s : ℕ → EReal)
    (hs : ∀ q : Fin 2048, entry o (L (ix3 0 r q)) r q = s (o + q.val)) :
    Best.Block s (fun c => o ≤ c ∧ c < o + 2048) (maxHi (F := Ideal) i L (ix2 r 0))
      (argHi (F := Ideal) i L (ix1 r) + BitVec.ofNat 32 o) := by
  have hm : maxHi (F := Ideal) i L (ix2 r 0) = Finset.univ.fold max ⊥ (fun q => entry o (L (ix3 0 r q)) r q) := by
    pointwise [maxHi, k0_pay116]
    rw [ofBits_bot]
    simp only [scoreHi i o ho hi]
  have ha : argHi (F := Ideal) i L (ix1 r) =
      Finset.univ.fold IntOp.minsi 2147483647#32 (fun q : Fin 2048 =>
        if entry o (L (ix3 0 r q)) r q = maxHi (F := Ideal) i L (ix2 r 0) then BitVec.ofNat 32 q.val else 100000#32) := by
    pointwise [argHi, k0_pay117]
    simp only [scoreHi i o ho hi, cols_at]
    rw [show k0_pay116 (F := Ideal) cols (offHi i) (wordsHi i).1 (wordsHi i).2.1 (wordsHi i).2.2 L = maxHi i L from rfl]
  rw [ha]
  exact Best.block_of_folds s o _ hs _ hm _ rfl

/-- A scoring point: the tile's best merged into the running one. -/
theorem merged (i : grid0.Coords) (o : ℕ) (ho : o < 150000) (hlo : offLo i = BitVec.ofNat 32 o)
    (hhi : offHi i = BitVec.ofNat 32 (o + 2048)) (L L' : Vec Ideal S1x128x2048 .f32) (bv : Vec Ideal S128x1 .f32)
    (bi : Vec Ideal S128x1 .i32) (r : Fin 128) (s : ℕ → EReal)
    (hs : ∀ q : Fin 2048, entry o (L (ix3 0 r q)) r q = s (o + q.val))
    (hs' : ∀ q : Fin 2048, entry (o + 2048) (L' (ix3 0 r q)) r q = s (o + 2048 + q.val))
    (h : Best.Best s (fun c => c < o) (bv (ix2 r 0)) (bi (ix2 r 0))) :
    Best.Best s (fun c => c < o + 4096) (valNew (F := Ideal) i L L' bv (ix2 r 0))
      (idxNew (F := Ideal) i L L' bv bi (ix2 r 0)) := by
  have t := (blockLo i o (by omega) hlo L r s hs).merge (blockHi i (o + 2048) (by omega) hhi L' r s hs')
    (fun c d h1 h2 => by omega)
  have m := h.merge t.block (fun c d h1 h2 => by omega)
  have ev : valNew (F := Ideal) i L L' bv (ix2 r 0)
      = if bv (ix2 r 0) < (if bestLo (F := Ideal) i L (ix2 r 0) < maxHi (F := Ideal) i L' (ix2 r 0)
          then maxHi (F := Ideal) i L' (ix2 r 0) else bestLo (F := Ideal) i L (ix2 r 0))
        then (if bestLo (F := Ideal) i L (ix2 r 0) < maxHi (F := Ideal) i L' (ix2 r 0)
          then maxHi (F := Ideal) i L' (ix2 r 0) else bestLo (F := Ideal) i L (ix2 r 0)) else bv (ix2 r 0) := by
    pointwise [valNew, k0_pay9, k0_pay8, k0_pay7, k0_pay6]
  have ei : idxNew (F := Ideal) i L L' bv bi (ix2 r 0)
      = if bv (ix2 r 0) < (if bestLo (F := Ideal) i L (ix2 r 0) < maxHi (F := Ideal) i L' (ix2 r 0)
          then maxHi (F := Ideal) i L' (ix2 r 0) else bestLo (F := Ideal) i L (ix2 r 0))
        then (if bestLo (F := Ideal) i L (ix2 r 0) < maxHi (F := Ideal) i L' (ix2 r 0)
          then argHi (F := Ideal) i L' (ix1 r) + BitVec.ofNat 32 (o + 2048) else argLo (F := Ideal) i L (ix2 r 0))
        else bi (ix2 r 0) := by
    pointwise [idxNew, k0_pay10, k0_pay8, k0_pay7, k0_pay6]
    rw [hhi]
    rfl
  rw [ev, ei]
  refine m.congr fun c => ?_
  constructor
  · rintro (h | h | h) <;> omega
  · intro h; omega

end Cert.KernelIdeal.Body

end
-- ==== Proof.KernelInv.lean ====
/-
  What the kernel's scratch holds between grid points, over the reals, and that each point keeps it: the hidden layer, the
  logits of the tile the next point scores, and each row's best score and first column over the tiles scored so far.
-/
module

public import proofs.«01_k».proof.Proof.KernelBlocks
public import proofs.«01_k».proof.Proof.KernelScore

@[expose] public section

set_option maxRecDepth 16384

noncomputable section

namespace Cert.KernelIdeal.Body

open Cert.KernelIdeal Cert.KernelIdeal.Gen Cert.Draw
open Idealize.ShloMosaic Idealize.ShloMosaic.TcCoe
open Idealize.SL.Sem

variable (m : (ℓ : Loc nD τ sig) → Buf (Elt Ideal) ℓ) (c : Dev nD)

/-- The specified logits at the launch's arguments. -/
abbrev specLogit (r : Fin 128) (k : Fin 100000) : EReal :=
  Spec.logit (obs m c) (mask m c) (wgt1 m c) (bias1 m c) (wgt2 m c) (bias2 m c) r k
/-- The specified scores at the launch's arguments. -/
abbrev specScore (r : Fin 128) (k : ℕ) : EReal :=
  Spec.score (obs m c) (mask m c) (wgt1 m c) (bias1 m c) (wgt2 m c) (bias2 m c) r k

/-- What the scratch holds before point `n`, if `n` is not the first: the hidden layer `h`; in the slot point `n` reads, the
    logits of the previous point's tile; and in each row the best score and first column over the columns scored so far. -/
structure Good (n : ℕ) (h : Vec Ideal S128x128 .f32) (l : Vec Ideal S2x128x4096 .f32) (bv : Vec Ideal S128x1 .f32)
    (bi : Vec Ideal S128x1 .i32) : Prop where
  hid : ∀ r q, h (ix2 r q) = Spec.hidden (obs m c) (wgt1 m c) (bias1 m c) r q
  lo : ∀ t : Fin cfg0.N, t.val = n → ∀ (h3 : k0_cond3 (grid0.coords t) = 1#1) (r : Fin 128) (q : Fin 2048)
    (hc : 4096 * (n - 1) + q.val < 100000), slotLo (grid0.coords t) h3 l (ix3 0 r q) = specLogit m c r ⟨_, hc⟩
  hi : ∀ t : Fin cfg0.N, t.val = n → ∀ (h3 : k0_cond3 (grid0.coords t) = 1#1) (r : Fin 128) (q : Fin 2048)
    (hc : 4096 * (n - 1) + 2048 + q.val < 100000), slotHi (grid0.coords t) h3 l (ix3 0 r q) = specLogit m c r ⟨_, hc⟩
  best : ∀ r, Best.Best (specScore m c r) (fun k => k < 4096 * (n - 1)) (bv (ix2 r 0)) (bi (ix2 r 0))

/-- The columns a scoring point's offsets name. -/
theorem off_val : ∀ t : Fin cfg0.N, t.val ≠ 0 → offLo (grid0.coords t) = BitVec.ofNat 32 (4096 * (t.val - 1))
    ∧ offHi (grid0.coords t) = BitVec.ofNat 32 (4096 * (t.val - 1) + 2048) :=
  (by decide +kernel : ∀ t : Fin grid0.N, _)

/-- A logit right inside the array makes the entry's score right, everywhere. -/
theorem entry_score (o : ℕ) (L : EReal) (r : Fin 128) (q : Fin 2048)
    (hL : ∀ hc : o + q.val < 100000, L = specLogit m c r ⟨_, hc⟩) : entry o L r q = specScore m c r (o + q.val) := by
  unfold entry specScore Spec.score
  by_cases hc : o + q.val < 100000
  · rw [if_pos hc, dif_pos hc, hL hc, add_comm]
  · rw [if_neg hc, dif_neg hc]

/-- The best after a scoring point covers one tile more. -/
theorem best_next (t : Fin cfg0.N) (ht : t.val ≠ 0) (h3 : k0_cond3 (grid0.coords t) = 1#1)
    {h : Vec Ideal S128x128 .f32} {l : Vec Ideal S2x128x4096 .f32} {bv : Vec Ideal S128x1 .f32} {bi : Vec Ideal S128x1 .i32}
    (g : Good m c t.val h l bv bi) (r : Fin 128) :
    Best.Best (specScore m c r) (fun k => k < 4096 * t.val)
      (valNew (grid0.coords t) (slotLo (grid0.coords t) h3 l) (slotHi (grid0.coords t) h3 l) bv (ix2 r 0))
      (idxNew (grid0.coords t) (slotLo (grid0.coords t) h3 l) (slotHi (grid0.coords t) h3 l) bv bi (ix2 r 0)) := by
  have hN : t.val < 26 := t.isLt
  refine (merged (grid0.coords t) (4096 * (t.val - 1)) (by omega) (off_val t ht).1 (off_val t ht).2 _ _ bv bi r
    (specScore m c r) (fun q => ?_) (fun q => ?_) (g.best r)).congr fun k => by omega
  · exact entry_score m c _ _ r q fun hc => g.lo t rfl h3 r q hc
  · exact entry_score m c _ _ r q fun hc => g.hi t rfl h3 r q hc

section
variable (t : Fin cfg0.N) (d1 : win0_1.block.Idx → BitVec 8) (d4 : win0_4.block.Idx → EReal) (d5 : win0_5.block.Idx → EReal)

/-- The tile point `t` stores in its slot is what the next point reads. -/
theorem slot_next (ht : t.val ≠ 25) (h : Vec Ideal S128x128 .f32)
    (hh : ∀ r q, h (ix2 r q) = Spec.hidden (obs m c) (wgt1 m c) (bias1 m c) r q) (l : Vec Ideal S2x128x4096 .f32)
    (t' : Fin cfg0.N) (e : t'.val = t.val + 1) (h3 : k0_cond3 (grid0.coords t') = 1#1) (r : Fin 128) (q : Fin 2048) :
    (∀ hc : 4096 * t.val + q.val < 100000, slotLo (grid0.coords t') h3 (lscrNew (grid0.coords t) l h
        (win0_1.fill (grid0.coords t) d1 (iblk m c 1 t)) (win0_4.fill (grid0.coords t) d4 (iblk m c 4 t))
        (win0_5.fill (grid0.coords t) d5 (iblk m c 5 t))) (ix3 0 r q) = specLogit m c r ⟨_, hc⟩)
      ∧ ∀ hc : 4096 * t.val + 2048 + q.val < 100000, slotHi (grid0.coords t') h3 (lscrNew (grid0.coords t) l h
        (win0_1.fill (grid0.coords t) d1 (iblk m c 1 t)) (win0_4.fill (grid0.coords t) d4 (iblk m c 4 t))
        (win0_5.fill (grid0.coords t) d5 (iblk m c 5 t))) (ix3 0 r q) = specLogit m c r ⟨_, hc⟩ := by
  have hN : t.val < 26 := t.isLt
  have hm : min t.val 24 = t.val := by omega
  have hv : (grid0.coords t' 0).val = (grid0.coords t 0).val + 1 := by rw [coords_val, coords_val, e]
  refine ⟨fun hc => ?_, fun hc => ?_⟩
  · rw [slotLo_at h _ _ _ (grid0.coords t) (grid0.coords t') h3 hv, tile_at m c t h hh d1 d4 d5 r _ (by rw [hm]; exact hc)]
    exact congrArg (specLogit m c r) (Fin.ext (by show 4096 * min t.val 24 + q.val = _; rw [hm]))
  · rw [slotHi_at h _ _ _ (grid0.coords t) (grid0.coords t') h3 hv,
      tile_at m c t h hh d1 d4 d5 r _ (by show 4096 * min t.val 24 + (2048 + q.val) < _; omega)]
    exact congrArg (specLogit m c r) (Fin.ext (by show 4096 * min t.val 24 + (2048 + q.val) = 4096 * t.val + 2048 + q.val; omega))

/-- The first point establishes it. -/
theorem good_first (ht : t.val = 0) (l : Vec Ideal S2x128x4096 .f32) :
    Good m c 1 (hid m c t) (lscrNew (grid0.coords t) l (hid m c t) (win0_1.fill (grid0.coords t) d1 (iblk m c 1 t))
      (win0_4.fill (grid0.coords t) d4 (iblk m c 4 t)) (win0_5.fill (grid0.coords t) d5 (iblk m c 5 t)))
      (k0_pay2 (F := Ideal)) k0_pay3 where
  hid := hid_at m c t
  lo t' e h3 r q hc := (slot_next m c t d1 d4 d5 (by omega) _ (hid_at m c t) l t' (by omega) h3 r q).1 (by omega) |>.trans
    (congrArg (specLogit m c r) (Fin.ext (by show 4096 * t.val + q.val = 4096 * (1 - 1) + q.val; omega)))
  hi t' e h3 r q hc := (slot_next m c t d1 d4 d5 (by omega) _ (hid_at m c t) l t' (by omega) h3 r q).2 (by omega) |>.trans
    (congrArg (specLogit m c r) (Fin.ext (by show 4096 * t.val + 2048 + q.val = 4096 * (1 - 1) + 2048 + q.val; omega)))
  best r := by
    have e1 : k0_pay2 (F := Ideal) (ix2 r 0) = ⊥ := by pointwise [k0_pay2]; exact ofBits_bot
    have e2 : k0_pay3 (ix2 r 0) = 0#32 := by pointwise [k0_pay3]
    rw [e1, e2]
    exact (Best.best_none _).congr fun k => by simp

/-- A middle point keeps it. -/
theorem good_middle (h0 : t.val ≠ 0) (ht : t.val ≠ 25) (h3 : k0_cond3 (grid0.coords t) = 1#1)
    {h : Vec Ideal S128x128 .f32} {l : Vec Ideal S2x128x4096 .f32} {bv : Vec Ideal S128x1 .f32} {bi : Vec Ideal S128x1 .i32}
    (g : Good m c t.val h l bv bi) :
    Good m c (t.val + 1) h (lscrNew (grid0.coords t) l h (win0_1.fill (grid0.coords t) d1 (iblk m c 1 t))
        (win0_4.fill (grid0.coords t) d4 (iblk m c 4 t)) (win0_5.fill (grid0.coords t) d5 (iblk m c 5 t)))
      (valNew (grid0.coords t) (slotLo (grid0.coords t) h3 l) (slotHi (grid0.coords t) h3 l) bv)
      (idxNew (grid0.coords t) (slotLo (grid0.coords t) h3 l) (slotHi (grid0.coords t) h3 l) bv bi) where
  hid := g.hid
  lo t' e h3' r q hc := (slot_next m c t d1 d4 d5 ht _ g.hid l t' e h3' r q).1 hc
  hi t' e h3' r q hc := (slot_next m c t d1 d4 d5 ht _ g.hid l t' e h3' r q).2 hc
  best r := best_next m c t h0 h3 g r

end

/-- What the last point hands out is the column every best over the array's columns has. -/
theorem act_eq (t : Fin cfg0.N) (ht : t.val = 25) (h3 : k0_cond3 (grid0.coords t) = 1#1)
    {h : Vec Ideal S128x128 .f32} {l : Vec Ideal S2x128x4096 .f32} {bv : Vec Ideal S128x1 .f32} {bi : Vec Ideal S128x1 .i32}
    (g : Good m c t.val h l bv bi) (act : Vec Ideal S128x1 .i32)
    (hact : ∀ r, ∃ v, Best.Best (specScore m c r) (fun k => k < 100000) v (act (ix2 r 0))) :
    idxNew (grid0.coords t) (slotLo (grid0.coords t) h3 l) (slotHi (grid0.coords t) h3 l) bv bi = act := by
  funext y
  obtain ⟨r, rfl⟩ : ∃ r : Fin 128, y = ix2 r 0 := ⟨y 0, funext fun a => by
    match a with
    | 0 => rfl
    | 1 => exact Subsingleton.elim (α := Fin 1) _ _⟩
  obtain ⟨v, hv⟩ := hact r
  refine Best.Best.unique ((best_next m c t (by omega) h3 g r).shrink (fun k hk => by omega) fun k _ hk => ?_) hv
  exact dif_neg hk

end Cert.KernelIdeal.Body

end
-- ==== Proof.KernelPoint.lean ====
/-
  The pipeline's body obligation with values, over the reals: from scratch that holds what the previous points left, a
  grid point leaves the specified logits in the logits' staging buffer, the best columns in theirs at the last point, and
  scratch fit for the next point.
-/
module

public import proofs.«01_k».proof.Proof.KernelInv

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (c : Dev nD) (act : Dev nD → Vec Ideal S128x1 .i32)

/-- What a point leaves: scratch fit for the next point; before the last point, the tile's logits on the part inside the
    array and the best columns' buffer untouched; at the last point, the logits' buffer untouched and the columns `act`. -/
def Leaves (t : Fin cfg0.N) (X7 Y7 : Vec Ideal S128x4096 .f32) (X8 Y8 : Vec Ideal S128x1 .i32)
    (h : Vec Ideal S128x128 .f32) (l : Vec Ideal S2x128x4096 .f32) (bv : Vec Ideal S128x1 .f32) (bi : Vec Ideal S128x1 .i32) :
    Prop :=
  (t.val ≠ 25 → Good m c (t.val + 1) h l bv bi
      ∧ (∀ (r : Fin 128) (q : Fin 4096) (hc : 4096 * min t.val 24 + q.val < 100000), Y7 (ix2 r q) = specLogit m c r ⟨_, hc⟩)
      ∧ Y8 = X8)
    ∧ (t.val = 25 → Y7 = X7 ∧ Y8 = act c)

/-- The body at a point, with what it leaves. -/
theorem valuePoint (hact : ∀ r, ∃ v, Best.Best (specScore m c r) (fun k => k < 100000) v (act c (ix2 r 0)))
    (E : Set ℕ) (t : Fin cfg0.N) (d1 : win0_1.block.Idx → BitVec 8) (d4 : win0_4.block.Idx → EReal)
    (d5 : win0_5.block.Idx → EReal) (X7 : Vec Ideal S128x4096 .f32) (X8 : Vec Ideal S128x1 .i32)
    (h : Vec Ideal S128x128 .f32) (l : Vec Ideal S2x128x4096 .f32) (bv : Vec Ideal S128x1 .f32) (bi : Vec Ideal S128x1 .i32)
    (g : t.val ≠ 0 → Good m c t.val h l bv bi) (K : PUnit → sProp 𝕄) :
    iprop(heldAt c t (iblk m c 0 t) (win0_1.fill (grid0.coords t) d1 (iblk m c 1 t)) (iblk m c 2 t) (iblk m c 3 t)
          (win0_4.fill (grid0.coords t) d4 (iblk m c 4 t)) (win0_5.fill (grid0.coords t) d5 (iblk m c 5 t)) X7 X8 h l bv bi
        ∗ ((∃ Y7 Y8 h' l' bv' bi', ⌜Leaves m c act t X7 Y7 X8 Y8 h' l' bv' bi'⌝
          ∗ heldAt c t (iblk m c 0 t) (win0_1.fill (grid0.coords t) d1 (iblk m c 1 t)) (iblk m c 2 t) (iblk m c 3 t)
          (win0_4.fill (grid0.coords t) d4 (iblk m c 4 t)) (win0_5.fill (grid0.coords t) d5 (iblk m c 5 t))
            Y7 Y8 h' l' bv' bi') -∗ K ⟨⟩))
      ⊢ wp frame (wpE (defs₀ (F := Ideal)) Variants.none c none) E (bodyAt0 t) K := by
  have h1 := cond1_iff t; have h2 := cond2_iff t; have h3 := cond3_iff t; have h4 := cond4_iff t
  iintro ⟨H, Hk⟩
  by_cases e0 : t.val = 0
  · iapply (first c (grid0.coords t) _ _ _ _ _ _ _ _ _ _ _ _ _ _ _ _ _ _ _ _ _ _ _ _ E (h1.2 e0) (h2.2 (by omega))
      (fun h => h3.1 h e0) (fun h => by have := h4.1 h; omega) (iblk m c 0 t)
      (win0_1.fill (grid0.coords t) d1 (iblk m c 1 t)) (iblk m c 2 t) (iblk m c 3 t)
      (win0_4.fill (grid0.coords t) d4 (iblk m c 4 t)) (win0_5.fill (grid0.coords t) d5 (iblk m c 5 t)) X7 X8 h l bv bi K)
    isplitl [H]
    · iexact H
    iintro H
    iapply Hk
    iexists _, _, _, _, _, _
    isplitr
    rotate_left
    · iexact H
    · ipureintro
      refine ⟨fun _ => ⟨?_, fun r q hc => ?_, rfl⟩, fun e => absurd e (by omega)⟩
      · rw [e0]; exact good_first m c t d1 d4 d5 e0 l
      · rw [outNew_at]; exact tile_at m c t _ (hid_at m c t) d1 d4 d5 r q hc
  by_cases e25 : t.val = 25
  · iapply (last c (grid0.coords t) _ _ _ _ _ _ _ _ _ _ _ _ _ _ _ _ _ _ _ _ _ _ _ _ E (fun h => e0 (h1.1 h)) (fun h => h2.1 h e25)
      (h3.2 e0) (h4.2 e25) (iblk m c 0 t)
      (win0_1.fill (grid0.coords t) d1 (iblk m c 1 t)) (iblk m c 2 t) (iblk m c 3 t)
      (win0_4.fill (grid0.coords t) d4 (iblk m c 4 t)) (win0_5.fill (grid0.coords t) d5 (iblk m c 5 t)) X7 X8 h l bv bi K)
    isplitl [H]
    · iexact H
    iintro H
    iapply Hk
    iexists _, _, _, _, _, _
    isplitr
    rotate_left
    · iexact H
    · ipureintro
      exact ⟨fun e => absurd e25 e, fun _ => ⟨rfl, act_eq m c t e25 (h3.2 e0) (g e0) (act c) hact⟩⟩
  · iapply (middle c (grid0.coords t) _ _ _ _ _ _ _ _ _ _ _ _ _ _ _ _ _ _ _ _ _ _ _ _ E (fun h => e0 (h1.1 h)) (h2.2 e25)
      (h3.2 e0) (fun h => e25 (h4.1 h)) (iblk m c 0 t)
      (win0_1.fill (grid0.coords t) d1 (iblk m c 1 t)) (iblk m c 2 t) (iblk m c 3 t)
      (win0_4.fill (grid0.coords t) d4 (iblk m c 4 t)) (win0_5.fill (grid0.coords t) d5 (iblk m c 5 t)) X7 X8 h l bv bi K)
    isplitl [H]
    · iexact H
    iintro H
    iapply Hk
    iexists _, _, _, _, _, _
    isplitr
    rotate_left
    · iexact H
    · ipureintro
      refine ⟨fun _ => ⟨good_middle m c t d1 d4 d5 e0 e25 (h3.2 e0) (g e0), fun r q hc => ?_, rfl⟩, fun e => absurd e e25⟩
      rw [outNew_at]; exact tile_at m c t _ (g e0).hid d1 d4 d5 r q hc

/-- The logits' buffer after point `t`: the specified logits of its columns, and zero past the array's end. -/
def out (c : Dev nD) (t : Fin cfg0.N) : Vec Ideal S128x4096 .f32 := fun y =>
  if hc : 4096 * min t.val 24 + (y 1).val < 100000 then specLogit m c (y 0) ⟨_, hc⟩ else 0

/-- The scratch between points. -/
def inv (c : Dev nD) (t : Fin (cfg0.N + 1)) : sProp 𝕄 :=
  iprop(∃ (h : Vec Ideal S128x128 .f32) (l : Vec Ideal S2x128x4096 .f32) (bv : Vec Ideal S128x1 .f32) (bi : Vec Ideal S128x1 .i32),
    ⌜t.val ≠ 0 → t.val ≠ 26 → Good m c t.val h l bv bi⌝
      ∗ ((((c : Thread nD τ).loc cc0_scratch0) ↦{fullShare} h) ∗ (((c : Thread nD τ).loc cc0_scratch1) ↦{fullShare} l)
        ∗ (((c : Thread nD τ).loc cc0_scratch2) ↦{fullShare} bv) ∗ (((c : Thread nD τ).loc cc0_scratch3) ↦{fullShare} bi))
      ∗ ∃ r, prngReg c r)

/-- The proof data of the value run. -/
def vdats (_ : Fin 1) (c : Dev nD) : Dat τ (Elt Ideal) Unit ℕ (UR sig nD τ) ℕ cfg0 c :=
  dat m c (out m c) (fun _ => act c) (inv m c)

/-- The launch hands the scratch over at any contents; nothing is asked of it before the first point. -/
theorem inv_in : Pipeline.ΦA spec0 c ⊢ inv m c 0 := by
  unfold Pipeline.ΦA inv
  rw [scopedRest0_eq]
  iintro ⟨⟨⟨%s9, S9⟩, ⟨%s10, S10⟩, ⟨%s11, S11⟩, ⟨%s12, S12⟩⟩, Hr⟩
  iexists s9, s10, s11, s12
  isplitr
  · ipureintro; exact fun h => absurd rfl h
  isplitl [S9 S10 S11 S12]
  · isplitl [S9]; · iexact S9
    isplitl [S10]; · iexact S10
    isplitl [S11]; · iexact S11
    · iexact S12
  · iexact Hr

/-- After the last point it is handed back. -/
theorem inv_out (t : Fin (cfg0.N + 1)) : inv m c t ⊢ Pipeline.ΦA spec0 c := by
  unfold Pipeline.ΦA inv
  rw [scopedRest0_eq]
  iintro ⟨%s9, %s10, %s11, %s12, -, ⟨S9, S10, S11, S12⟩, Hr⟩
  isplitr [Hr]
  · isplitl [S9]; · iexists s9; iexact S9
    isplitl [S10]; · iexists s10; iexact S10
    isplitl [S11]; · iexists s11; iexact S11
    · iexists s12; iexact S12
  · iexact Hr

/-- Contents right on the part inside the array are `out` there. -/
theorem out_fill (t : Fin cfg0.N) (Y : Vec Ideal S128x4096 .f32)
    (hY : ∀ (r : Fin 128) (q : Fin 4096) (hc : 4096 * min t.val 24 + q.val < 100000), Y (ix2 r q) = specLogit m c r ⟨_, hc⟩) :
    win0_6.fill (grid0.coords t) Y (win0_6.cut (grid0.coords t) (out m c t)) = Y := by
  refine win0_6.fill_congr_cut _ (funext fun j => ?_)
  have hc : 4096 * min t.val 24 + (win0_6.xinj (grid0.coords t) j 1).val < 100000 := by
    have h := (j 1).isLt
    obtain ⟨-, -, -, -, e1⟩ := extent_eq t
    have h' : (j 1).val < win0_6.xsize (grid0.coords t) 1 := h
    rw [e1] at h'
    show 4096 * min t.val 24 + (j 1).val < 100000
    omega
  have hy := hY (win0_6.xinj (grid0.coords t) j 0) (win0_6.xinj (grid0.coords t) j 1) hc
  have e : win0_6.xinj (grid0.coords t) j = ix2 (win0_6.xinj (grid0.coords t) j 0) (win0_6.xinj (grid0.coords t) j 1) :=
    funext fun a => by
      match a with
      | 0 => rfl
      | 1 => rfl
  refine (congrArg Y e).trans (hy.trans ?_)
  show _ = out m c t (win0_6.xinj (grid0.coords t) j)
  unfold out
  rw [dif_pos hc]

/-- The last point finds the last block's logits in the logits' buffer. -/
theorem before_last (t : Fin cfg0.N) (ht : t.val = 25) (d) (r : Fin 128) (q : Fin 4096)
    (hc : 4096 * min t.val 24 + q.val < 100000) : (vdats m act 0 c).before 6 t d (ix2 r q) = specLogit m c r ⟨_, hc⟩ := by
  have hlt : t.val - 1 < cfg0.N := Nat.lt_of_le_of_lt (Nat.sub_le _ _) t.isLt
  have hm : win0_6.moved (grid0.coords ⟨t.val - 1, hlt⟩) (ix2 r q) = true := (win0_6.moved_iff _ _).2 fun a => by
    obtain ⟨-, -, -, e0, e1⟩ := extent_eq ⟨t.val - 1, hlt⟩
    match a with
    | 0 => rw [e0]; exact r.isLt
    | 1 => rw [e1]; show q.val < min 4096 (100000 - 4096 * min (t.val - 1) 24); omega
  have hf : ¬ (cfg0.win 6).flush ⟨t.val - 1, hlt⟩ = true := fun h => (flush6_iff ⟨t.val - 1, hlt⟩).1 h (by show t.val - 1 = 24; omega)
  have hi : cfg0.idle 6 (cfg0.grid.coords ⟨t.val - 1, hlt⟩) = false := by
    rw [Bool.eq_false_iff]
    exact fun h => absurd ((idle6_iff ⟨t.val - 1, hlt⟩).1 h) (by show ¬ t.val - 1 = 25; omega)
  rw [(vdats m act 0 c).before_of_pos 6 t (by omega) rfl d, if_neg hf]
  unfold Dat.left
  rw [hi]
  show win0_6.fill (grid0.coords ⟨t.val - 1, hlt⟩) d (win0_6.cut (grid0.coords ⟨t.val - 1, hlt⟩) (out m c ⟨t.val - 1, hlt⟩)) (ix2 r q) = _
  unfold Window.fill
  rw [dif_pos hm]
  refine (dif_pos (show 4096 * min (t.val - 1) 24 + q.val < 100000 by omega)).trans ?_
  exact congrArg (specLogit m c r) (Fin.ext (by show 4096 * min (t.val - 1) 24 + q.val = 4096 * min t.val 24 + q.val; omega))

end Cert.KernelIdeal.Body

end
-- ==== Proof.KernelRun.lean ====
/-
  The kernel's run with values, over the reals: the pipeline's body obligation, the launch, and what the two results'
  arrays hold at the end.
-/
module

public import proofs.«01_k».proof.Proof.KernelPoint

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg) (act : Dev nD → Vec Ideal S128x1 .i32)

set_option maxHeartbeats 400000 in
/-- The pipeline's body obligation with values. -/
theorem value_obligation (c : Dev nD)
    (hact : ∀ r, ∃ v, Best.Best (specScore m c r) (fun k => k < 100000) v (act c (ix2 r 0))) :
    BodyObligationLoose (vdats m act 0 c) (defs₀ (F := Ideal)) Variants.none () Set.univ := fun t => by
  have hN : t.val < 26 := t.isLt
  rw [bigSep_W0, bigSep_W0]
  dsimp only
  rw [show (vdats m act 0 c).Φ t.succ = inv m c t.succ from rfl, show (vdats m act 0 c).Φ t.castSucc = inv m c t.castSucc from rfl,
    show (vdats m act 0 c).owesAt () t.succ = (vdats m act 0 c).owesAt () t.castSucc from rfl]
  unfold inv
  iintro ⟨⟨%s9, %s10, %s11, %s12, %hg, ⟨S9, S10, S11, S12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [show (vdats m act 0 c).before 0 t d0 = _ from before_0 m c _ _ _ t d0, show (vdats m act 0 c).before 1 t d1 = _ from before_1 m c _ _ _ t d1,
    show (vdats m act 0 c).before 2 t d2 = _ from before_2 m c _ _ _ t d2, show (vdats m act 0 c).before 3 t d3 = _ from before_3 m c _ _ _ t d3,
    show (vdats m act 0 c).before 4 t d4 = _ from before_4 m c _ _ _ t d4, show (vdats m act 0 c).before 5 t d5 = _ from before_5 m c _ _ _ t d5]
  iapply (valuePoint m c act hact Set.univ t d1 d4 d5 ((vdats m act 0 c).before 6 t d6) ((vdats m act 0 c).before 7 t d7)
    s9 s10 s11 s12 (fun h0 => hg h0 (by show t.val ≠ 26; omega)) _)
  unfold heldAt held
  simp only [owns_whole_eq]
  isplitl [H0 H1 H2 H3 H4 H5 H6 H7 S9 S10 S11 S12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S9]
    · iexists s9; isplitr; · ipureintro; rfl
      iexact S9
    isplitl [S10]
    · iexists s10; isplitr; · ipureintro; rfl
      iexact S10
    isplitl [S11]
    · iexists s11; isplitr; · ipureintro; rfl
      iexact S11
    · iexists s12; isplitr; · ipureintro; rfl
      iexact S12
  iintro ⟨%Y7, %Y8, %h', %l', %bv', %bi', %hL, H0, H1, H2, H3, H4, H5, H6, H7, ⟨%f9, %hf9, S9⟩, ⟨%f10, %hf10, S10⟩, ⟨%f11, %hf11, S11⟩, ⟨%f12, %hf12, S12⟩⟩
  have hf9' : f9 = h' := hf9
  have hf10' : f10 = l' := hf10
  have hf11' : f11 = bv' := hf11
  have hf12' : f12 = bi' := hf12
  subst hf9' hf10' hf11' hf12'
  isplitl [S9 S10 S11 S12 Hr]
  · iexists f9, f10, f11, f12
    isplitr
    · ipureintro
      exact fun _ h26 => (hL.1 (fun e => h26 (by show t.val + 1 = 26; omega))).1
    isplitr [Hr]
    · isplitl [S9]; · iexact S9
      isplitl [S10]; · iexact S10
      isplitl [S11]; · iexact S11
      · iexact S12
    · iexact Hr
  isplitl [Ho]; · iexact Ho
  isplitl [H0]; · iexact H0
  isplitl [H1]
  · iapply (give_1 m c (out m c) (fun _ => act c) (inv m c) t d1)
    iexact H1
  isplitl [H2]; · iexact H2
  isplitl [H3]; · iexact H3
  isplitl [H4]
  · iapply (give_4 m c (out m c) (fun _ => act c) (inv m c) t d4)
    iexact H4
  isplitl [H5]
  · iapply (give_5 m c (out m c) (fun _ => act c) (inv m c) t d5)
    iexact H5
  by_cases e25 : t.val = 25
  · have i6 : idle0 6 (grid0.coords t) = true := (idle6_iff t).2 e25
    have f6 : (win0 6).flush t = true := (flush6_iff t).2 (by omega)
    have i7 : idle0 7 (grid0.coords t) = false := by
      rw [Bool.eq_false_iff]; exact fun h => (idle7_iff t).1 h e25
    obtain ⟨r7, r8⟩ := hL.2 e25
    subst r7 r8
    rw [i6, f6, i7]
    isplitl [H6]
    · iexists (vdats m act 0 c).before 6 t d6
      change _ ⊢ owns (c : Thread nD τ) (st0_6 t) fullShare (win0_6.fill (grid0.coords t) ((vdats m act 0 c).before 6 t d6)
        (win0_6.cut (grid0.coords t) (out m c t)))
      rw [out_fill m c t _ (before_last m c act t e25 d6)]
    · iexact H7
  · have i6 : idle0 6 (grid0.coords t) = false := by
      rw [Bool.eq_false_iff]; exact fun h => e25 ((idle6_iff t).1 h)
    have i7 : idle0 7 (grid0.coords t) = true := (idle7_iff t).2 e25
    have f7 : (win0 7).flush t = false := by
      rw [Bool.eq_false_iff]; exact fun h => e25 ((flush7_iff t).1 h)
    obtain ⟨-, r7, r8⟩ := hL.1 e25
    subst r8
    rw [i6, i7, f7]
    isplitl [H6]
    · iexists Y7
      change _ ⊢ owns (c : Thread nD τ) (st0_6 t) fullShare (win0_6.fill (grid0.coords t) Y7
        (win0_6.cut (grid0.coords t) (out m c t)))
      rw [out_fill m c t _ r7]
    · iexists d7
      iexact H7

end Cert.KernelIdeal.Body

end
-- ==== Proof.KernelValue.lean ====
/-
  What the kernel's run leaves, over the reals: the specified logits in their array and, in the actions' array, the columns
  that are best in every row.
-/
module

public import proofs.«01_k».proof.Proof.KernelRun

@[expose] public section

set_option maxRecDepth 16384

noncomputable section

namespace Cert.KernelIdeal.Body

open Cert.KernelIdeal Cert.KernelIdeal.Gen
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg) (act : Dev nD → Vec Ideal S128x1 .i32)

/-- The logits' array after the region: the specified logits. -/
theorem final_logits (c : Dev nD) : (vdats m act 0 c).arrAt 6 (cfgs 0).N
    = (fun i : S128x100000.Idx => specLogit m c (i 0) (i 1)) := by
  refine (vdats m act 0 c).arrAt_eq_of_covers 6 _ (by decide +kernel) fun t _ y => ?_
  blk_simp [index_eq t]
  have e0 : ((win0_6.blk t).view.emb y 0 : ℕ) = (y 0).val := by blk_simp [index_eq t]
  have e1 : ((win0_6.blk t).view.emb y 1 : ℕ) = min t.val 24 * 4096 + (y 1).val := by blk_simp [index_eq t]
  have hlt : ((win0_6.blk t).view.emb y 1 : ℕ) < 100000 := ((win0_6.blk t).view.emb y 1).isLt
  have hc : 4096 * min t.val 24 + (y 1).val < 100000 := by omega
  refine (dif_pos hc).trans ?_
  exact congrArg₂ (specLogit m c) (Fin.ext e0.symm) (Fin.ext (by
    show 4096 * min t.val 24 + (y 1).val = ((win0_6.blk t).view.emb y 1 : ℕ); omega))

/-- The best columns' array after the region. -/
theorem final_act (c : Dev nD) : (vdats m act 0 c).arrAt 7 (cfgs 0).N = act c := by
  refine (vdats m act 0 c).arrAt_eq_of_covers 7 _ (by decide +kernel) fun t _ y => ?_
  blk_simp [index_eq t]
  show act c y = _
  blk_point [index_eq t]

/-- A column read as a vector. -/
theorem column_at (x : IVec S128x1 32) (h) (r : Fin 128) : shapeCast S128 x h (ix1 r) = x (ix2 r 0) := by pointwise

/-- The actions' array after the region's last host line: the best columns as a vector. -/
theorem final_actions (c : Dev nD) (r : Fin 128) :
    (Pipeline.afterTail₀ cfgs (vdats m act) 0 (V0 m) [hostOps1] c main_v0_0 : IVec S128 32) (ix1 r) = act c (ix2 r 0) := by
  unfold Pipeline.afterTail₀
  simp only [List.flatten_cons, List.flatten_nil, List.append_nil]
  after_results
  refine (column_at _ _ r).trans ?_
  exact congrFun ((Pipeline.withArrays_arr _ launch0.win.arr_inj c (V0 m c) _ 7).trans (final_act m act c)) (ix2 r 0)

set_option backward.isDefEq.respectTransparency.types false in
/-- The run: every fair run of the kernel ends with both results as said and the arguments as launched. -/
theorem value_run (hact : ∀ c r, ∃ v, Best.Best (specScore m c r) (fun k => k < 100000) v (act c (ix2 r 0))) :
    θ_run defs (onTc (τ := τ) (main (F := Ideal))) ⟨m, fun _ => 0, ρ⟩ (fun r => ∀ c : Dev nD,
      r.2.mem ((c.tc : Thread nD τ).loc main_v0_0) = (fun j : S128.Idx => act c (ix2 (j 0) 0))
      ∧ r.2.mem ((c.tc : Thread nD τ).loc main_v0_1) = (fun i : S128x100000.Idx => specLogit m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_frame_around_track cfgs (vdats m act) 0 launch0 defs₀ Variants.none m ρ main
    (hbody := fun c => value_obligation m act c (hact c))
    (hshare := fun c => (vdats m act 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hin := inv_in m) (hout := fun c => inv_out m c _)
    (Q' := _) (hQ' := fun r h c => ⟨((h.1 c).2 main_v0_0 (Pipeline.mem_restRefs_of main_v0_0 (by decide) (by decide))).trans
        (funext fun j : S128.Idx => by
          obtain ⟨r, rfl⟩ : ∃ r : Fin 128, j = ix1 r := ⟨j 0, funext fun a => by match a with | 0 => rfl⟩
          exact final_actions m act c r),
      ((h.1 c).1 6).trans (final_logits m act c),
      ((h.1 c).1 0).trans (((vdats m act 0 c).arrAt_in 0 rfl _).trans (V_main_arg0 m c)),
      ((h.1 c).2 main_arg1 (Pipeline.mem_restRefs_of main_arg1 (by decide) (by decide))).trans (W_main_arg1 m (vdats m act) c),
      ((h.1 c).1 2).trans (((vdats m act 0 c).arrAt_in 2 rfl _).trans (V_main_arg2 m c)),
      ((h.1 c).2 main_arg3 (Pipeline.mem_restRefs_of main_arg3 (by decide) (by decide))).trans (W_main_arg3 m (vdats m act) c),
      ((h.1 c).1 4).trans (((vdats m act 0 c).arrAt_in 4 rfl _).trans (V_main_arg4 m c)),
      ((h.1 c).2 main_arg5 (Pipeline.mem_restRefs_of main_arg5 (by decide) (by decide))).trans (W_main_arg5 m (vdats m act) c)⟩)

end Cert.KernelIdeal.Body

end
-- ==== Proof.RefOps.lean ====
/-
  The reference's program as one list of host operations, and what pieces of it leave: the generator's rounds four by
  four, as the plain functions of `Words`.
-/
module

public import proofs.«01_k».proof.Proof.Words
public import proofs.«01_k».proof.Proof.Gen.ReferenceIdeal
public import Idealize.ShloMosaic.Lib.Claim
public import Idealize.ShloMosaic.Lib.StableHlo.ReadAt
public import Idealize.ShloMosaic.Lib.Pointwise

@[expose] public section

noncomputable section

namespace Cert.ReferenceIdeal.Value

open Idealize.ShloMosaic Idealize.ShloMosaic.StableHlo Cert.ReferenceIdeal Cert.Draw

local instance facts : Cert.ReferenceIdeal.Facts := Cert.ReferenceIdeal.Gen.facts

variable {F : FTy → Type} [FloatOps F]

/-- The reference's operations in order, read off its program. -/
def line : {ops : List (HloOp τ sig (Elt F)) // ∀ d, IsSeq (main (F := F) d) ops} := by
  apply Subtype.mk; hlo_seq

/-- The score of a column: its logit plus the draw made from the word `w`. -/
def score (w : BitVec 32) (l : F .f32) : F .f32 :=
  FloatOps.addf (FloatOps.hostNegf (FloatOps.hostUnary .log (FloatOps.hostNegf (FloatOps.hostUnary .log
    (FloatOps.maximumf (FloatOps.ofBits .f32 8388608#32)
      (FloatOps.addf (FloatOps.mulf
        (FloatOps.maximumf (FloatOps.ofBits .f32 0#32)
          (FloatOps.addf (FloatOps.mulf
            (FloatOps.subf (FloatOps.ofBits .f32 (IntOp.ori (IntOp.shrui .host w 9#32) 1065353216#32))
              (FloatOps.ofBits .f32 1065353216#32))
            (FloatOps.subf (FloatOps.ofBits .f32 1065353216#32) (FloatOps.ofBits .f32 0#32)))
            (FloatOps.ofBits .f32 0#32)))
        (FloatOps.ofBits .f32 1065353216#32)) (FloatOps.ofBits .f32 8388608#32))))))) l

/-- Operations `a` to `a + n - 1`. -/
abbrev part (a n : ℕ) : List (HloOp τ sig (Elt F)) := ((line (F := F)).1.drop a).take n

/-- The first four rounds, after the key words `a` and `b` are added to the counter's two words. -/
theorem group1 (V : Valuation τ sig (Elt F)) (a b : BitVec 32) (x y : IVec S128x100000 32)
    (ha : V (Proc.devRef .tc main_call2_v5) = fun _ => a) (hb : V (Proc.devRef .tc main_call2_v7) = fun _ => b)
    (hx : V (Proc.devRef .tc main_call2_v18) = x) (hy : V (Proc.devRef .tc main_call2_v17) = y) :
    after (part 51 43) V (Proc.devRef .tc main_call2_call0_v27) = (fun i => (even (x i + a, y i + b)).1)
    ∧ after (part 51 43) V (Proc.devRef .tc main_call2_call0_v33) = (fun i => (even (x i + a, y i + b)).2)
    ∧ after (part 51 43) V (Proc.devRef .tc main_call2_call0_v1) = fun _ => a ^^^ b ^^^ 466688986#32 := by
  refine ⟨?_, ?_, ?_⟩ <;> funext i <;> after_reads_at <;>
    simp (disch := decide) only [ha, hb, hx, hy, rot_eq, IntOp.addi, IntOp.xori, even, four, mix]

/-- The next four, from the pairs `p`. -/
theorem group2 (V : Valuation τ sig (Elt F)) (b k : BitVec 32) (p : S128x100000.Idx → BitVec 32 × BitVec 32)
    (hb : V (Proc.devRef .tc main_call2_v7) = fun _ => b) (hk : V (Proc.devRef .tc main_call2_call0_v1) = fun _ => k)
    (hx : V (Proc.devRef .tc main_call2_call0_v27) = fun i => (p i).1)
    (hy : V (Proc.devRef .tc main_call2_call0_v33) = fun i => (p i).2) :
    after (part 94 43) V (Proc.devRef .tc main_call2_call0_v61) = (fun i => (odd (inject b k 1#32 (p i))).1)
    ∧ after (part 94 43) V (Proc.devRef .tc main_call2_call0_v67) = (fun i => (odd (inject b k 1#32 (p i))).2) := by
  refine ⟨?_, ?_⟩ <;> funext i <;> after_reads_at <;>
    simp (disch := decide) only [hb, hk, hx, hy, rot_eq, IntOp.addi, IntOp.xori, odd, four, mix, inject]

/-- The third four. -/
theorem group3 (V : Valuation τ sig (Elt F)) (a k : BitVec 32) (p : S128x100000.Idx → BitVec 32 × BitVec 32)
    (ha : V (Proc.devRef .tc main_call2_v5) = fun _ => a) (hk : V (Proc.devRef .tc main_call2_call0_v1) = fun _ => k)
    (hx : V (Proc.devRef .tc main_call2_call0_v61) = fun i => (p i).1)
    (hy : V (Proc.devRef .tc main_call2_call0_v67) = fun i => (p i).2) :
    after (part 137 43) V (Proc.devRef .tc main_call2_call0_v95) = (fun i => (even (inject k a 2#32 (p i))).1)
    ∧ after (part 137 43) V (Proc.devRef .tc main_call2_call0_v101) = (fun i => (even (inject k a 2#32 (p i))).2) := by
  refine ⟨?_, ?_⟩ <;> funext i <;> after_reads_at <;>
    simp (disch := decide) only [ha, hk, hx, hy, rot_eq, IntOp.addi, IntOp.xori, even, four, mix, inject]

/-- The fourth four. -/
theorem group4 (V : Valuation τ sig (Elt F)) (a b : BitVec 32) (p : S128x100000.Idx → BitVec 32 × BitVec 32)
    (ha : V (Proc.devRef .tc main_call2_v5) = fun _ => a) (hb : V (Proc.devRef .tc main_call2_v7) = fun _ => b)
    (hx : V (Proc.devRef .tc main_call2_call0_v95) = fun i => (p i).1)
    (hy : V (Proc.devRef .tc main_call2_call0_v101) = fun i => (p i).2) :
    after (part 180 43) V (Proc.devRef .tc main_call2_call0_v129) = (fun i => (odd (inject a b 3#32 (p i))).1)
    ∧ after (part 180 43) V (Proc.devRef .tc main_call2_call0_v135) = (fun i => (odd (inject a b 3#32 (p i))).2) := by
  refine ⟨?_, ?_⟩ <;> funext i <;> after_reads_at <;>
    simp (disch := decide) only [ha, hb, hx, hy, rot_eq, IntOp.addi, IntOp.xori, odd, four, mix, inject]

/-- The last four. -/
theorem group5 (V : Valuation τ sig (Elt F)) (b k : BitVec 32) (p : S128x100000.Idx → BitVec 32 × BitVec 32)
    (hb : V (Proc.devRef .tc main_call2_v7) = fun _ => b) (hk : V (Proc.devRef .tc main_call2_call0_v1) = fun _ => k)
    (hx : V (Proc.devRef .tc main_call2_call0_v129) = fun i => (p i).1)
    (hy : V (Proc.devRef .tc main_call2_call0_v135) = fun i => (p i).2) :
    after (part 223 43) V (Proc.devRef .tc main_call2_call0_v163) = (fun i => (even (inject b k 4#32 (p i))).1)
    ∧ after (part 223 43) V (Proc.devRef .tc main_call2_call0_v169) = (fun i => (even (inject b k 4#32 (p i))).2) := by
  refine ⟨?_, ?_⟩ <;> funext i <;> after_reads_at <;>
    simp (disch := decide) only [hb, hk, hx, hy, rot_eq, IntOp.addi, IntOp.xori, even, four, mix, inject]

/-- The last addition of key words, and the two words of each pair combined into the draw's word. -/
theorem group6 (V : Valuation τ sig (Elt F)) (a k : BitVec 32) (p : S128x100000.Idx → BitVec 32 × BitVec 32)
    (ha : V (Proc.devRef .tc main_call2_v5) = fun _ => a) (hk : V (Proc.devRef .tc main_call2_call0_v1) = fun _ => k)
    (hx : V (Proc.devRef .tc main_call2_call0_v163) = fun i => (p i).1)
    (hy : V (Proc.devRef .tc main_call2_call0_v169) = fun i => (p i).2) :
    after (part 266 8) V (Proc.devRef .tc main_call2_v20) = fun i => (inject k a 5#32 (p i)).1 ^^^ (inject k a 5#32 (p i)).2 := by
  funext i; after_reads_at
  simp only [ha, hk, hx, hy, IntOp.addi, IntOp.xori, inject]

/-- A counter is below two to the power 32: its high half is zero. -/
theorem high_half (r q : ℕ) (hr : r < 128) (hq : q < 100000) :
    BitVec.setWidth 32 ((100000#64 * BitVec.ofNat 64 r + 1#64 * BitVec.ofNat 64 q) >>> 32#64) = 0#32 := by
  apply BitVec.eq_of_toNat_eq
  have e : (100000#64 * BitVec.ofNat 64 r + 1#64 * BitVec.ofNat 64 q).toNat = r * 100000 + q := by
    simp only [BitVec.toNat_add, BitVec.toNat_mul, BitVec.toNat_ofNat]
    omega
  have e' : (32#64).toNat = 32 := by decide
  rw [BitVec.ushiftRight_eq', BitVec.toNat_setWidth, BitVec.toNat_ushiftRight, e, e', Nat.shiftRight_eq_div_pow,
    Nat.div_eq_of_lt (by omega)]
  rfl

/-- The key words and the counters: the counter of row `r` and column `c` is `100000 r + c`, its high half zero. -/
theorem counters (V : Valuation τ sig (Elt F)) :
    after (part 0 51) V (Proc.devRef .tc main_call2_v5) = (fun _ => 0#32)
    ∧ after (part 0 51) V (Proc.devRef .tc main_call2_v7) = (fun _ => 42#32)
    ∧ after (part 0 51) V (Proc.devRef .tc main_call2_v18) = (fun _ => 0#32)
    ∧ after (part 0 51) V (Proc.devRef .tc main_call2_v17)
        = fun i => BitVec.ofNat 32 (100000 * (i 0).val + (i 1).val) := by
  refine ⟨?_, ?_, ?_, ?_⟩ <;> funext i
  · after_reads_at
    after_reads_at
    rfl
  · after_reads_at
    after_reads_at
    rfl
  · after_reads_at
    apply BitVec.eq_of_toNat_eq
    have h0 : (i 0).val < 128 := (i 0).isLt
    have h1 : (i 1).val < 100000 := (i 1).isLt
    simp only [IntOp.shrui, IntOp.addi, IntOp.muli]
    rw [if_pos (by decide)]
    generalize (i 0).val = r at h0 ⊢
    generalize (i 1).val = q at h1 ⊢
    exact congrArg BitVec.toNat (high_half r q h0 h1)
  · after_reads_at
    apply BitVec.eq_of_toNat_eq
    simp only [IntOp.addi, IntOp.muli]
    simp only [BitVec.toNat_setWidth, BitVec.toNat_add, BitVec.toNat_mul, BitVec.toNat_ofNat]
    omega

/-- The draws and the scores, from the draws' words, the two bounds of the unit interval and the logits. -/
theorem scores (V : Valuation τ sig (Elt F)) (w : IVec S128x100000 32) (l : Vec F S128x100000 .f32)
    (hz : V (Proc.devRef .tc main_call2_v2) = fun _ => FloatOps.ofBits .f32 0x00000000#32)
    (ho : V (Proc.devRef .tc main_call2_v3) = fun _ => FloatOps.ofBits .f32 0x3F800000#32)
    (hw : V (Proc.devRef .tc main_call2_v20) = w)
    (hl : V (Proc.devRef .tc main_v11) = l) :
    after (part 274 31) V (Proc.devRef .tc main_v30) = fun i => score (w i) (l i) := by
  funext i; after_reads_at
  simp only [hz, ho, hw, hl]
  rfl

/-- The choice, from the scores. -/
theorem choice (V : Valuation τ sig (Elt F)) (s : Vec F S128x100000 .f32)
    (hs : V (Proc.devRef .tc main_v30) = s) :
    after (part 305 5) V (Proc.devRef .tc main_v31) = fun j =>
      (Host.argReduce reducer_argmax_f32_i32 s (iotaInDim S128x100000 32 1)
        (constant S_ .f32 0xFF800000#32) (constantI S_ 32 0#32) Facts₀.reducesTo_S128x100000_S128_d1 Facts₀.h_S_ j).2 := by
  after_reads_simp
  simp only [TRef.ofBuf_toBuf]
  rw [hs]
  rfl

end Cert.ReferenceIdeal.Value
-- ==== Proof.RefValue.lean ====
/-
  What the reference's two results hold over the extended reals.
-/
module

public import proofs.«01_k».proof.Proof.RefOps
public import proofs.«01_k».proof.Proof.Spec
public import proofs.«01_k».proof.Proof.Best

@[expose] public section

set_option maxRecDepth 16384

noncomputable section

namespace Cert.ReferenceIdeal.Value

open Idealize.ShloMosaic Idealize.ShloMosaic.StableHlo Cert.ReferenceIdeal Cert.Draw

local instance valueFacts : Cert.ReferenceIdeal.Facts := Cert.ReferenceIdeal.Gen.facts

/-- Dividing by one changes nothing. -/
theorem div_one' (x : EReal) : Ideal.div x 1 = x := by
  simp [Ideal.div]

/-- The logits the reference's program leaves. -/
theorem logits (V : Valuation τ sig (Elt Ideal)) (X : FVec Ideal ⟨2, ![128, 128]⟩ .f32) (M : IVec ⟨2, ![128, 100000]⟩ 1)
    (W₁ : FVec Ideal ⟨2, ![128, 128]⟩ .f32) (b₁ : FVec Ideal ⟨1, ![128]⟩ .f32) (W₂ : FVec Ideal ⟨2, ![128, 100000]⟩ .f32)
    (b₂ : FVec Ideal ⟨1, ![100000]⟩ .f32)
    (h0 : V (Proc.devRef .tc main_arg0) = X) (h1 : V (Proc.devRef .tc main_arg1) = M)
    (h2 : V (Proc.devRef .tc main_arg2) = W₁) (h3 : V (Proc.devRef .tc main_arg3) = b₁)
    (h4 : V (Proc.devRef .tc main_arg4) = W₂) (h5 : V (Proc.devRef .tc main_arg5) = b₂) :
    after (part 0 51) V (Proc.devRef .tc main_v11) = fun i => Spec.logit X M W₁ b₁ W₂ b₂ (i 0) (i 1) := by
  funext i
  after_reads_at
  simp only [h0, h1, h2, h3, h4, h5]
  pointwise [Spec.logit, Spec.hidden]
  rw [div_one']
  unfold Scalar.select
  rfl

/-- A draw's uniform number is not negative. -/
theorem unit_nonneg (w : BitVec 32) : 0 ≤ Spec.unit w := by
  have hs : ((w >>> 9) ||| 0x3F800000#32).extractLsb' 31 1 = 0#1 := by
    ext i hi; interval_cases i; simp
  have he : ((w >>> 9) ||| 0x3F800000#32).extractLsb' 23 8 = 127#8 := by
    ext i hi; interval_cases i <;> simp
  unfold Spec.unit Ideal.ofBits
  simp only [Ideal.ieee]
  rw [hs, he]
  simp only [BitVec.toNat_ofNat]
  generalize (BitVec.extractLsb' 0 23 ((w >>> 9) ||| 0x3F800000#32)).toNat = k
  norm_num
  rw [← EReal.coe_natCast, ← EReal.coe_add, ← EReal.coe_mul, ← EReal.coe_one, ← EReal.coe_sub]
  refine EReal.coe_nonneg.mpr ?_
  have : (0 : ℝ) ≤ (k : ℝ) := Nat.cast_nonneg k
  linarith

/-- The score of a column over the extended reals. -/
theorem score_eq (w : BitVec 32) (l : EReal) : score (F := Ideal) w l = Spec.noise w + l := by
  have h1 : Ideal.ofBits .f32 1065353216#32 = 1 := Ideal.ofBits_one_f32
  have h0 : Ideal.ofBits .f32 0#32 = 0 := by simp [Ideal.ofBits, Ideal.ieee]
  have hw : IntOp.ori (IntOp.shrui .host w 9#32) 1065353216#32 = (w >>> 9) ||| 0x3F800000#32 := by
    simp [IntOp.ori, IntOp.shrui]
  have hu := unit_nonneg w
  unfold score Spec.noise
  rw [hw]
  change -Ideal.log (-Ideal.log (max (Ideal.ofBits .f32 8388608#32)
    (max (Ideal.ofBits .f32 0#32) ((Ideal.ofBits .f32 ((w >>> 9) ||| 0x3F800000#32) - Ideal.ofBits .f32 1065353216#32)
      * (Ideal.ofBits .f32 1065353216#32 - Ideal.ofBits .f32 0#32) + Ideal.ofBits .f32 0#32)
      * Ideal.ofBits .f32 1065353216#32 + Ideal.ofBits .f32 8388608#32))) + l = _
  rw [h1, h0]
  rw [sub_zero, mul_one, add_zero, mul_one]
  change -Ideal.log (-Ideal.log (max Spec.tiny (max 0 (Spec.unit w) + Spec.tiny))) + l = _
  rw [max_eq_right hu]

/-- What a later piece reads of an earlier one is left alone in between. -/
theorem keeps (V : Valuation τ sig (Elt Ideal)) (p : List (HloOp τ sig (Elt Ideal)))
    (hp : p ∈ [part 51 43, part 94 43, part 137 43, part 180 43, part 223 43, part 266 8]) :
    after p V (Proc.devRef .tc main_call2_v2) = V (Proc.devRef .tc main_call2_v2)
    ∧ after p V (Proc.devRef .tc main_call2_v3) = V (Proc.devRef .tc main_call2_v3)
    ∧ after p V (Proc.devRef .tc main_call2_v5) = V (Proc.devRef .tc main_call2_v5)
    ∧ after p V (Proc.devRef .tc main_call2_v7) = V (Proc.devRef .tc main_call2_v7)
    ∧ after p V (Proc.devRef .tc main_v11) = V (Proc.devRef .tc main_v11) := by
  simp only [List.mem_cons, List.not_mem_nil, _root_.or_false] at hp
  rcases hp with rfl | rfl | rfl | rfl | rfl | rfl <;> refine ⟨?_, ?_, ?_, ?_, ?_⟩ <;> funext i <;> after_reads_at

/-- Nor is the third key word, once computed, touched. -/
theorem keeps_key (V : Valuation τ sig (Elt Ideal)) (p : List (HloOp τ sig (Elt Ideal)))
    (hp : p ∈ [part 94 43, part 137 43, part 180 43, part 223 43]) :
    after p V (Proc.devRef .tc main_call2_call0_v1) = V (Proc.devRef .tc main_call2_call0_v1) := by
  simp only [List.mem_cons, List.not_mem_nil, _root_.or_false] at hp
  rcases hp with rfl | rfl | rfl | rfl <;> funext i <;> after_reads_at

/-- A list of operations run is its first `n` and then the rest. -/
theorem after_split (n : ℕ) (l : List (HloOp τ sig (Elt Ideal))) (V : Valuation τ sig (Elt Ideal)) :
    after l V = after (l.drop n) (after (l.take n) V) := by
  rw [← after_append, List.take_append_drop]

/-- The whole program is its pieces in order. -/
theorem after_line (V : Valuation τ sig (Elt Ideal)) :
    after line.1 V = after (part 305 5) (after (part 274 31) (after (part 266 8) (after (part 223 43) (after (part 180 43)
      (after (part 137 43) (after (part 94 43) (after (part 51 43) (after (part 0 51) V)))))))) := by
  rw [after_split 51, after_split 43 (List.drop 51 _), List.drop_drop, after_split 43 (List.drop (51 + 43) _), List.drop_drop]
  rw [after_split 43 (List.drop (51 + 43 + 43) _), List.drop_drop, after_split 43 (List.drop (51 + 43 + 43 + 43) _), List.drop_drop]
  rw [after_split 43 (List.drop (51 + 43 + 43 + 43 + 43) _), List.drop_drop, after_split 8 (List.drop (51 + 43 + 43 + 43 + 43 + 43) _), List.drop_drop]
  rw [after_split 31 (List.drop (51 + 43 + 43 + 43 + 43 + 43 + 8) _), List.drop_drop]
  rfl

/-- The bounds of the unit interval, which the first piece leaves. -/
theorem bounds (V : Valuation τ sig (Elt Ideal)) :
    after (part 0 51) V (Proc.devRef .tc main_call2_v2) = (fun _ => FloatOps.ofBits (F := Ideal) .f32 0x00000000#32)
    ∧ after (part 0 51) V (Proc.devRef .tc main_call2_v3) = (fun _ => FloatOps.ofBits (F := Ideal) .f32 0x3F800000#32) := by
  refine ⟨?_, ?_⟩ <;> funext i <;> after_reads_at
  · exact Ideal.ofBits_zero_f32
  · exact Ideal.ofBits_one_f32

variable (V : Valuation τ sig (Elt Ideal)) (X : FVec Ideal ⟨2, ![128, 128]⟩ .f32) (M : IVec ⟨2, ![128, 100000]⟩ 1)
  (W₁ : FVec Ideal ⟨2, ![128, 128]⟩ .f32) (b₁ : FVec Ideal ⟨1, ![128]⟩ .f32) (W₂ : FVec Ideal ⟨2, ![128, 100000]⟩ .f32)
  (b₂ : FVec Ideal ⟨1, ![100000]⟩ .f32)

/-- The scores, from the logits: the draw's word is the generator's at the counter of the row and column. -/
theorem scores_of (l : FVec Ideal S128x100000 .f32) (hl : after (part 0 51) V (Proc.devRef .tc main_v11) = l) :
    after (part 274 31) (after (part 266 8) (after (part 223 43) (after (part 180 43)
      (after (part 137 43) (after (part 94 43) (after (part 51 43) (after (part 0 51) V))))))) (Proc.devRef .tc main_v30)
      = fun i => Spec.noise (word (BitVec.ofNat 32 (100000 * (i 0).val + (i 1).val))) + l i := by
  obtain ⟨c5, c7, c18, c17⟩ := counters V
  obtain ⟨b2, b3⟩ := bounds V
  generalize after (part 0 51) V = V₁ at *
  obtain ⟨x, y, k⟩ := group1 V₁ _ _ _ _ c5 c7 c18 c17
  obtain ⟨e2, e3, e5, e7, e11⟩ := keeps V₁ (part 51 43) (by simp)
  rw [← e2] at b2; rw [← e3] at b3; rw [← e5] at c5; rw [← e7] at c7; rw [← e11] at hl
  clear e2 e3 e5 e7 e11 c18 c17
  generalize after (part 51 43) V₁ = V₂ at *
  obtain ⟨x', y'⟩ := group2 V₂ _ _ _ c7 k x y
  obtain ⟨e2, e3, e5, e7, e11⟩ := keeps V₂ (part 94 43) (by simp)
  rw [← e2] at b2; rw [← e3] at b3; rw [← e5] at c5; rw [← e7] at c7; rw [← e11] at hl
  rw [← keeps_key V₂ (part 94 43) (by simp)] at k
  clear e2 e3 e5 e7 e11 x y
  generalize after (part 94 43) V₂ = V₃ at *
  obtain ⟨x, y⟩ := group3 V₃ _ _ _ c5 k x' y'
  obtain ⟨e2, e3, e5, e7, e11⟩ := keeps V₃ (part 137 43) (by simp)
  rw [← e2] at b2; rw [← e3] at b3; rw [← e5] at c5; rw [← e7] at c7; rw [← e11] at hl
  rw [← keeps_key V₃ (part 137 43) (by simp)] at k
  clear e2 e3 e5 e7 e11 x' y'
  generalize after (part 137 43) V₃ = V₄ at *
  obtain ⟨x', y'⟩ := group4 V₄ _ _ _ c5 c7 x y
  obtain ⟨e2, e3, e5, e7, e11⟩ := keeps V₄ (part 180 43) (by simp)
  rw [← e2] at b2; rw [← e3] at b3; rw [← e5] at c5; rw [← e7] at c7; rw [← e11] at hl
  rw [← keeps_key V₄ (part 180 43) (by simp)] at k
  clear e2 e3 e5 e7 e11 x y
  generalize after (part 180 43) V₄ = V₅ at *
  obtain ⟨x, y⟩ := group5 V₅ _ _ _ c7 k x' y'
  obtain ⟨e2, e3, e5, e7, e11⟩ := keeps V₅ (part 223 43) (by simp)
  rw [← e2] at b2; rw [← e3] at b3; rw [← e5] at c5; rw [← e7] at c7; rw [← e11] at hl
  rw [← keeps_key V₅ (part 223 43) (by simp)] at k
  clear e2 e3 e5 e7 e11 x' y'
  generalize after (part 223 43) V₅ = V₆ at *
  have w := group6 V₆ _ _ _ c5 k x y
  obtain ⟨e2, e3, e5, e7, e11⟩ := keeps V₆ (part 266 8) (by simp)
  rw [← e2] at b2; rw [← e3] at b3; rw [← e11] at hl
  clear e2 e3 e5 e7 e11 x y
  generalize after (part 266 8) V₆ = V₇ at *
  rw [scores V₇ _ l b2 b3 w hl]
  funext i
  rw [score_eq]
  rfl

/-- One step of the program's arg-max is the merge of one column. -/
theorem reducer_step {s : ℕ → EReal} {P : ℕ → Prop} {p : EReal × BitVec 32} (h : Best.Best s P p.1 p.2) (c : ℕ)
    (hc : c < 2 ^ 31) (hP : ∀ c, P c → c < 2 ^ 31) :
    Best.Best s (fun c' => P c' ∨ c' = c) (reducer_argmax_f32_i32 (F := Ideal) p (s c, BitVec.ofNat 32 c)).1
      (reducer_argmax_f32_i32 (F := Ideal) p (s c, BitVec.ofNat 32 c)).2 := by
  have e : reducer_argmax_f32_i32 (F := Ideal) p (s c, BitVec.ofNat 32 c)
      = (if s c < p.1 then p.1 else s c,
        if s c < p.1 ∨ (p.1 = s c ∧ p.2.toInt < (BitVec.ofNat 32 c).toInt) then p.2 else BitVec.ofNat 32 c) := by
    unfold reducer_argmax_f32_i32
    simp only [Ideal.cmpf_def, Ideal.cmp, IntOp.ori, IntOp.andi, IntOp.cmpi, Scalar.select, BitVec.slt]
    by_cases h1 : s c < p.1 <;> by_cases h2 : p.1 = s c <;> by_cases h3 : p.2.toInt < (BitVec.ofNat 32 c).toInt <;>
      simp [h1, h2, h3]
  rw [e]
  exact h.step c hc hP

/-- Folding a list of columns in. -/
theorem fold_best {ι : Type} (s : ℕ → EReal) (col : ι → ℕ) (val : ι → EReal) (l : List ι)
    (hval : ∀ n ∈ l, val n = s (col n)) (hcol : ∀ n ∈ l, col n < 2 ^ 31) (P : ℕ → Prop) (hP : ∀ c, P c → c < 2 ^ 31)
    (p : EReal × BitVec 32) (h : Best.Best s P p.1 p.2) :
    Best.Best s (fun c => P c ∨ ∃ n ∈ l, col n = c)
      (l.foldl (fun r n => reducer_argmax_f32_i32 (F := Ideal) r (val n, BitVec.ofNat 32 (col n))) p).1
      (l.foldl (fun r n => reducer_argmax_f32_i32 (F := Ideal) r (val n, BitVec.ofNat 32 (col n))) p).2 := by
  induction l generalizing P p with
  | nil => exact h.congr fun c => by simp
  | cons n l ih =>
    have hn := reducer_step h (col n) (hcol n (by simp)) hP
    rw [← hval n (by simp)] at hn
    refine (ih (fun m hm => hval m (by simp [hm])) (fun m hm => hcol m (by simp [hm])) _ ?_ _ hn).congr fun c => ?_
    · rintro c (hc | rfl)
      · exact hP c hc
      · exact hcol n (by simp)
    · simp only [List.mem_cons, exists_eq_or_imp]
      constructor
      · rintro ((h | h) | h)
        exacts [.inl h, .inr (.inl h.symm), .inr (.inr h)]
      · rintro (h | h | h)
        exacts [.inl (.inl h), .inl (.inr h.symm), .inr h]

/-- The least column of the greatest score, as the program's arg-max over a row finds it. -/
theorem argmax_best (s : FVec Ideal S128x100000 .f32) (f : Fin 128 → ℕ → EReal)
    (hf : ∀ r (c : Fin 100000), f r c.val = s (ix2 r c)) (j : S128.Idx) :
    ∃ v, Best.Best (f (j 0)) (fun c => c < 100000) v
      (Host.argReduce reducer_argmax_f32_i32 s (iotaInDim S128x100000 32 1)
        (constant S_ .f32 0xFF800000#32) (constantI S_ 32 0#32) Facts₀.reducesTo_S128x100000_S128_d1 Facts₀.h_S_ j).2 := by
  rw [Ideal.argReduce_eq_reduce2]
  unfold Host.reduce2
  have hd : ∀ i : S128x100000.Idx, Facts₀.reducesTo_S128x100000_S128_d1.drop i = j → i 0 = j 0 := by
    rintro i rfl; rfl
  refine ⟨_, (fold_best (f (j 0)) (fun n => ((S128x100000.rowMajor.symm n) 1).val)
    (fun n => s (S128x100000.rowMajor.symm n)) _ (fun n hn => ?_) (fun n _ => ?_) (fun _ => False) (fun _ h => h.elim)
    (Ideal.ofBits .f32 0xFF800000#32, 0#32) ?_).congr fun c => ?_⟩
  · have hj := hd _ (by simpa using (List.mem_filter.mp hn).2)
    rw [hf (j 0) ((S128x100000.rowMajor.symm n) 1), ← hj]
    congr 1
    funext a
    match a with
    | ⟨0, _⟩ => rfl
    | ⟨1, _⟩ => rfl
  · exact lt_trans ((S128x100000.rowMajor.symm n) 1).isLt (by decide)
  · have e : Ideal.ofBits .f32 0xFF800000#32 = ⊥ := by simp [Ideal.ofBits, Ideal.ieee]
    rw [e]
    exact Best.best_none _
  · constructor
    · rintro (h | ⟨n, _, rfl⟩)
      · exact h.elim
      · exact ((S128x100000.rowMajor.symm n) 1).isLt
    · intro hc
      refine .inr ⟨S128x100000.rowMajor (ix2 (j 0) ⟨c, hc⟩), ?_, ?_⟩
      · rw [List.mem_filter]
        refine ⟨List.mem_finRange _, ?_⟩
        rw [Equiv.symm_apply_apply]
        simp only [decide_eq_true_eq]
        funext a
        match a with
        | ⟨0, _⟩ => rfl
      · rw [Equiv.symm_apply_apply]; rfl

/-- What the program leaves: the logits, and for each row the first column of its greatest score. -/
theorem values (h0 : V (Proc.devRef .tc main_arg0) = X) (h1 : V (Proc.devRef .tc main_arg1) = M)
    (h2 : V (Proc.devRef .tc main_arg2) = W₁) (h3 : V (Proc.devRef .tc main_arg3) = b₁)
    (h4 : V (Proc.devRef .tc main_arg4) = W₂) (h5 : V (Proc.devRef .tc main_arg5) = b₂) :
    after line.1 V (Proc.devRef .tc main_v11) = (fun i => Spec.logit X M W₁ b₁ W₂ b₂ (i 0) (i 1))
    ∧ ∀ j : S128.Idx, ∃ v, Best.Best (Spec.score X M W₁ b₁ W₂ b₂ (j 0)) (fun c => c < 100000) v
        ((after line.1 V (Proc.devRef .tc main_v31) : IVec S128 32) j) := by
  have hl := logits V X M W₁ b₁ W₂ b₂ h0 h1 h2 h3 h4 h5
  rw [after_line]
  refine ⟨?_, fun j => ?_⟩
  · rw [← hl]
    funext i
    after_reads_at
  · rw [choice _ _ (scores_of V _ hl)]
    refine argmax_best _ _ (fun r c => ?_) j
    show Spec.score X M W₁ b₁ W₂ b₂ r c.val = Spec.noise (word (BitVec.ofNat 32 (100000 * r.val + c.val)))
      + Spec.logit X M W₁ b₁ W₂ b₂ r c
    unfold Spec.score
    rw [dif_pos c.isLt]

end Cert.ReferenceIdeal.Value
-- ==== Proof.RefRun.lean ====
/-
  The reference's run over the extended reals: every fair run ends with both results as its line of operations leaves
  them, and the arguments as launched.
-/
module

public import proofs.«01_k».proof.Proof.RefValue

@[expose] public section

set_option maxRecDepth 65536

noncomputable section

namespace Cert.ReferenceIdeal.Value

open Idealize.ShloMosaic Idealize.ShloMosaic.StableHlo Cert.ReferenceIdeal

local instance runFacts : Cert.ReferenceIdeal.Facts := Cert.ReferenceIdeal.Gen.facts

/-- No operation of the line writes an argument. -/
theorem args_kept (V : Valuation τ sig (Elt Ideal)) (b : Ref sig .tc)
    (hb : b ∈ [main_arg0, main_arg1, main_arg2, main_arg3, main_arg4, main_arg5]) :
    after line.1 V (Proc.devRef .tc b) = V (Proc.devRef .tc b) := by
  simp only [List.mem_cons, List.not_mem_nil, _root_.or_false] at hb
  rcases hb with rfl | rfl | rfl | rfl | rfl | rfl <;> (unfold line; after_results)

/-- The contents a core's line of operations leaves in a buffer. -/
abbrev left (m : (ℓ : Loc nD τ sig) → Buf (Elt Ideal) ℓ) (c : Dev nD) (b : Ref sig .tc) :
    Buf (Elt Ideal) ((c.tc : Thread nD τ).loc b) :=
  after line.1 (launchContents m c) (Proc.devRef .tc b)

set_option maxHeartbeats 4000000 in
/-- The run: both results as the line leaves them, the arguments as launched. -/
theorem value_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v31) = left m c main_v31
      ∧ r.2.mem ((c.tc : Thread nD τ).loc main_v11) = left m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono (fun r h c => ?_) (run_hlo defs main line.2 (by decide) (by decide) (by unfold line; simp)
    (by
      unfold line
      intro _ h
      (repeat (cases h with | head => rfl | tail _ h => ?_))
      exact nomatch h) m g)
  have ha := fun b hb => (h c b).trans (args_kept (launchContents m c) b hb)
  exact ⟨h c main_v31, h c main_v11, ha main_arg0 (by simp), ha main_arg1 (by simp), ha main_arg2 (by simp),
    ha main_arg3 (by simp), ha main_arg4 (by simp), ha main_arg5 (by simp)⟩

end Cert.ReferenceIdeal.Value
-- ==== Proof.Equation.lean ====
/-
  The equation: from memories that agree on the arguments, the kernel's two results are the reference's.
-/
module

public import proofs.«01_k».proof.Defs
public import proofs.«01_k».proof.Proof.KernelValue
public import proofs.«01_k».proof.Proof.RefRun

@[expose] public section

noncomputable section

namespace Cert.Proof

open Idealize.ShloMosaic

/-- The kernel and the reference end with equal results: the specified logits, and the columns the reference chooses, which
    are first among the best and so the kernel's as well. -/
theorem results_agree : Cert.algebraic_KernelIdeal_ReferenceIdeal (hKernelIdeal := Cert.KernelIdeal.Gen.facts)
    (hReferenceIdeal := Cert.ReferenceIdeal.Gen.facts) := fun m g m' g' _ hm => by
  have hv := fun c => Cert.ReferenceIdeal.Value.values (StableHlo.launchContents m' c) _ _ _ _ _ _
    (hm c).1 (hm c).2.1 (hm c).2.2.1 (hm c).2.2.2.1 (hm c).2.2.2.2.1 (hm c).2.2.2.2.2
  refine ⟨fun c => Cert.ReferenceIdeal.Value.left m' c Cert.ReferenceIdeal.main_v31,
    fun c i => Cert.KernelIdeal.Body.specLogit m c (i 0) (i 1), ?_, ?_⟩
  · refine (θ_run _ _ _).mono (fun r h c => ⟨(h c).1.trans ?_, (h c).2⟩)
      (Cert.KernelIdeal.Body.value_run m g
        (fun c y => (Cert.ReferenceIdeal.Value.left m' c Cert.ReferenceIdeal.main_v31 : IVec ⟨1, ![128]⟩ 32) (ix1 (y 0)))
        fun c r => (hv c).2 (ix1 r))
    funext j
    refine congrArg (Cert.ReferenceIdeal.Value.left m' c Cert.ReferenceIdeal.main_v31 : IVec ⟨1, ![128]⟩ 32) ?_
    funext a
    match a with
    | 0 => rfl
  · exact (θ_run _ _ _).mono (fun r h c => ⟨(h c).1, (h c).2.1.trans (hv c).1, (h c).2.2⟩)
      (Cert.ReferenceIdeal.Value.value_run m' g')

end Cert.Proof
-- ==== Proof.lean ====
module

public import proofs.«01_k».proof.Defs
public import proofs.«01_k».proof.Proof.KernelFrame
public import proofs.«01_k».proof.Proof.RefFrame
public import proofs.«01_k».proof.Proof.Equation

@[expose] public section

namespace Cert.Proof

/-- The claims, in their order: the frames of the kernel, of the kernel at the ideal instance and of the reference,
    that the idealization rewrote nothing, and that the two programs' results are equal. -/
theorem claim : Cert.Claim :=
  ⟨Cert.Kernel.Gen.facts, Cert.KernelIdeal.Gen.facts, Cert.ReferenceIdeal.Gen.facts,
    kernel_frame, kernelIdeal_frame, reference_frame, trivial, results_agree⟩

end Cert.Proof

end
